-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![2048, 1024]⟩ ⟨2, ![4096, 2048]⟩ (Layout.meshBlock [2, 2] ![[0], [1]] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x1024 : Shape := ⟨2, ![2048, 1024]⟩
abbrev S2048x2048 : Shape := ⟨2, ![2048, 2048]⟩
abbrev S32 : Shape := ⟨1, ![32]⟩
abbrev S_ : Shape := ⟨0, ![]⟩
abbrev S64x1024 : Shape := ⟨2, ![64, 1024]⟩
abbrev S1 : Shape := ⟨1, ![1]⟩

abbrev nBuf : Space → Nat
  | .hbm => 2
  | .vmem => 4
  | .smem => 0
  | _ => 0

abbrev bufTy : (tb : Table) → Fin (tcTables nBuf tb) → BufTy
  | .hbm, ⟨0, _⟩ => ⟨S2048x1024, .bf16⟩
  | .hbm, ⟨1, _⟩ => ⟨S2048x2048, .bf16⟩
  | .local _ .vmem, ⟨0, _⟩ => ⟨S2048x1024, .bf16⟩
  | .local _ .vmem, ⟨1, _⟩ => ⟨S2048x2048, .bf16⟩
  | .local _ .vmem, ⟨2, _⟩ => ⟨S2048x1024, .bf16⟩
  | .local _ .vmem, ⟨3, _⟩ => ⟨S2048x1024, .bf16⟩
  | _, _ => ⟨S2048x1024, .bf16⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 130 → Bool
  | ⟨i, _⟩ => dmaSemScopedAt i

abbrev sig : RefSig :=
  (ofTc nBuf bufTy 1 130 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_2 v2
  let c2_i32_4 : BitVec 32 := 2#32
  let v8 : BitVec 32 := Scalar.muli v7 c2_i32_4
  let v9 : BitVec 32 := Scalar.addi c0_i32 v8
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_5 : BitVec 32 := 1#32
  let v10 : BitVec 32 := Scalar.muli v5 c1_i32_5
  let v11 : BitVec 32 := Scalar.addi v9 v10
  v11.toNat
def k0_dev2 (d0 : Dev nD) : Nat :=
  let c0_i32_9 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_8 : BitVec 32 := 2#32
  let v13 : BitVec 32 := Scalar.muli v2 c2_i32_8
  let v14 : BitVec 32 := Scalar.addi c0_i32_9 v13
  let c1_i32_6 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v12 : BitVec 32 := Scalar.subi c1_i32_6 v5
  let c1_i32_10 : BitVec 32 := 1#32
  let v15 : BitVec 32 := Scalar.muli v12 c1_i32_10
  let v16 : BitVec 32 := Scalar.addi v14 v15
  v16.toNat
def k0_dev3 (d0 : Dev nD) : Nat :=
  let c0_i32_19 : BitVec 32 := 0#32
  let c1_i32_15 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v22 : BitVec 32 := Scalar.subi c1_i32_15 v2
  let c2_i32_18 : BitVec 32 := 2#32
  let v23 : BitVec 32 := Scalar.muli v22 c2_i32_18
  let v24 : BitVec 32 := Scalar.addi c0_i32_19 v23
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_20 : BitVec 32 := 1#32
  let v25 : BitVec 32 := Scalar.muli v5 c1_i32_20
  let v26 : BitVec 32 := Scalar.addi v24 v25
  v26.toNat
def k0_dev4 (d0 : Dev nD) : Nat :=
  let c0_i32_32 : BitVec 32 := 0#32
  let c1_i32_28 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v38 : BitVec 32 := Scalar.subi c1_i32_28 v2
  let c2_i32_31 : BitVec 32 := 2#32
  let v39 : BitVec 32 := Scalar.muli v38 c2_i32_31
  let v40 : BitVec 32 := Scalar.addi c0_i32_32 v39
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_33 : BitVec 32 := 1#32
  let v41 : BitVec 32 := Scalar.muli v5 c1_i32_33
  let v42 : BitVec 32 := Scalar.addi v40 v41
  v42.toNat
def k0_dev5 (d0 : Dev nD) : Nat :=
  let c0_i32_44 : BitVec 32 := 0#32
  let c1_i32_40 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v54 : BitVec 32 := Scalar.subi c1_i32_40 v2
  let c2_i32_43 : BitVec 32 := 2#32
  let v55 : BitVec 32 := Scalar.muli v54 c2_i32_43
  let v56 : BitVec 32 := Scalar.addi c0_i32_44 v55
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_45 : BitVec 32 := 1#32
  let v57 : BitVec 32 := Scalar.muli v5 c1_i32_45
  let v58 : BitVec 32 := Scalar.addi v56 v57
  v58.toNat
def k0_dev6 (d0 : Dev nD) : Nat :=
  let c0_i32_55 : BitVec 32 := 0#32
  let c1_i32_52 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v70 : BitVec 32 := Scalar.subi c1_i32_52 v2
  let c2_i32_54 : BitVec 32 := 2#32
  let v71 : BitVec 32 := Scalar.muli v70 c2_i32_54
  let v72 : BitVec 32 := Scalar.addi c0_i32_55 v71
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_56 : BitVec 32 := 1#32
  let v73 : BitVec 32 := Scalar.muli v5 c1_i32_56
  let v74 : BitVec 32 := Scalar.addi v72 v73
  v74.toNat
def k0_dev7 (d0 : Dev nD) : Nat :=
  let c0_i32_66 : BitVec 32 := 0#32
  let c1_i32_63 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v86 : BitVec 32 := Scalar.subi c1_i32_63 v2
  let c2_i32_65 : BitVec 32 := 2#32
  let v87 : BitVec 32 := Scalar.muli v86 c2_i32_65
  let v88 : BitVec 32 := Scalar.addi c0_i32_66 v87
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_67 : BitVec 32 := 1#32
  let v89 : BitVec 32 := Scalar.muli v5 c1_i32_67
  let v90 : BitVec 32 := Scalar.addi v88 v89
  v90.toNat
def k0_dev8 (d0 : Dev nD) : Nat :=
  let c0_i32_77 : BitVec 32 := 0#32
  let c1_i32_74 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v102 : BitVec 32 := Scalar.subi c1_i32_74 v2
  let c2_i32_76 : BitVec 32 := 2#32
  let v103 : BitVec 32 := Scalar.muli v102 c2_i32_76
  let v104 : BitVec 32 := Scalar.addi c0_i32_77 v103
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_78 : BitVec 32 := 1#32
  let v105 : BitVec 32 := Scalar.muli v5 c1_i32_78
  let v106 : BitVec 32 := Scalar.addi v104 v105
  v106.toNat
def k0_dev9 (d0 : Dev nD) : Nat :=
  let c0_i32_88 : BitVec 32 := 0#32
  let c1_i32_85 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v118 : BitVec 32 := Scalar.subi c1_i32_85 v2
  let c2_i32_87 : BitVec 32 := 2#32
  let v119 : BitVec 32 := Scalar.muli v118 c2_i32_87
  let v120 : BitVec 32 := Scalar.addi c0_i32_88 v119
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_89 : BitVec 32 := 1#32
  let v121 : BitVec 32 := Scalar.muli v5 c1_i32_89
  let v122 : BitVec 32 := Scalar.addi v120 v121
  v122.toNat
def k0_dev10 (d0 : Dev nD) : Nat :=
  let c0_i32_99 : BitVec 32 := 0#32
  let c1_i32_96 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v134 : BitVec 32 := Scalar.subi c1_i32_96 v2
  let c2_i32_98 : BitVec 32 := 2#32
  let v135 : BitVec 32 := Scalar.muli v134 c2_i32_98
  let v136 : BitVec 32 := Scalar.addi c0_i32_99 v135
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_100 : BitVec 32 := 1#32
  let v137 : BitVec 32 := Scalar.muli v5 c1_i32_100
  let v138 : BitVec 32 := Scalar.addi v136 v137
  v138.toNat
def k0_dev11 (d0 : Dev nD) : Nat :=
  let c0_i32_110 : BitVec 32 := 0#32
  let c1_i32_107 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v150 : BitVec 32 := Scalar.subi c1_i32_107 v2
  let c2_i32_109 : BitVec 32 := 2#32
  let v151 : BitVec 32 := Scalar.muli v150 c2_i32_109
  let v152 : BitVec 32 := Scalar.addi c0_i32_110 v151
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_111 : BitVec 32 := 1#32
  let v153 : BitVec 32 := Scalar.muli v5 c1_i32_111
  let v154 : BitVec 32 := Scalar.addi v152 v153
  v154.toNat
def k0_dev12 (d0 : Dev nD) : Nat :=
  let c0_i32_121 : BitVec 32 := 0#32
  let c1_i32_118 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v166 : BitVec 32 := Scalar.subi c1_i32_118 v2
  let c2_i32_120 : BitVec 32 := 2#32
  let v167 : BitVec 32 := Scalar.muli v166 c2_i32_120
  let v168 : BitVec 32 := Scalar.addi c0_i32_121 v167
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_122 : BitVec 32 := 1#32
  let v169 : BitVec 32 := Scalar.muli v5 c1_i32_122
  let v170 : BitVec 32 := Scalar.addi v168 v169
  v170.toNat
def k0_dev13 (d0 : Dev nD) : Nat :=
  let c0_i32_132 : BitVec 32 := 0#32
  let c1_i32_129 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v182 : BitVec 32 := Scalar.subi c1_i32_129 v2
  let c2_i32_131 : BitVec 32 := 2#32
  let v183 : BitVec 32 := Scalar.muli v182 c2_i32_131
  let v184 : BitVec 32 := Scalar.addi c0_i32_132 v183
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_133 : BitVec 32 := 1#32
  let v185 : BitVec 32 := Scalar.muli v5 c1_i32_133
  let v186 : BitVec 32 := Scalar.addi v184 v185
  v186.toNat
def k0_dev14 (d0 : Dev nD) : Nat :=
  let c0_i32_143 : BitVec 32 := 0#32
  let c1_i32_140 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v198 : BitVec 32 := Scalar.subi c1_i32_140 v2
  let c2_i32_142 : BitVec 32 := 2#32
  let v199 : BitVec 32 := Scalar.muli v198 c2_i32_142
  let v200 : BitVec 32 := Scalar.addi c0_i32_143 v199
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_144 : BitVec 32 := 1#32
  let v201 : BitVec 32 := Scalar.muli v5 c1_i32_144
  let v202 : BitVec 32 := Scalar.addi v200 v201
  v202.toNat
def k0_dev15 (d0 : Dev nD) : Nat :=
  let c0_i32_154 : BitVec 32 := 0#32
  let c1_i32_151 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v214 : BitVec 32 := Scalar.subi c1_i32_151 v2
  let c2_i32_153 : BitVec 32 := 2#32
  let v215 : BitVec 32 := Scalar.muli v214 c2_i32_153
  let v216 : BitVec 32 := Scalar.addi c0_i32_154 v215
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_155 : BitVec 32 := 1#32
  let v217 : BitVec 32 := Scalar.muli v5 c1_i32_155
  let v218 : BitVec 32 := Scalar.addi v216 v217
  v218.toNat
def k0_dev16 (d0 : Dev nD) : Nat :=
  let c0_i32_165 : BitVec 32 := 0#32
  let c1_i32_162 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v230 : BitVec 32 := Scalar.subi c1_i32_162 v2
  let c2_i32_164 : BitVec 32 := 2#32
  let v231 : BitVec 32 := Scalar.muli v230 c2_i32_164
  let v232 : BitVec 32 := Scalar.addi c0_i32_165 v231
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_166 : BitVec 32 := 1#32
  let v233 : BitVec 32 := Scalar.muli v5 c1_i32_166
  let v234 : BitVec 32 := Scalar.addi v232 v233
  v234.toNat
def k0_dev17 (d0 : Dev nD) : Nat :=
  let c0_i32_176 : BitVec 32 := 0#32
  let c1_i32_173 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v246 : BitVec 32 := Scalar.subi c1_i32_173 v2
  let c2_i32_175 : BitVec 32 := 2#32
  let v247 : BitVec 32 := Scalar.muli v246 c2_i32_175
  let v248 : BitVec 32 := Scalar.addi c0_i32_176 v247
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_177 : BitVec 32 := 1#32
  let v249 : BitVec 32 := Scalar.muli v5 c1_i32_177
  let v250 : BitVec 32 := Scalar.addi v248 v249
  v250.toNat
def k0_dev18 (d0 : Dev nD) : Nat :=
  let c0_i32_187 : BitVec 32 := 0#32
  let c1_i32_184 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v262 : BitVec 32 := Scalar.subi c1_i32_184 v2
  let c2_i32_186 : BitVec 32 := 2#32
  let v263 : BitVec 32 := Scalar.muli v262 c2_i32_186
  let v264 : BitVec 32 := Scalar.addi c0_i32_187 v263
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_188 : BitVec 32 := 1#32
  let v265 : BitVec 32 := Scalar.muli v5 c1_i32_188
  let v266 : BitVec 32 := Scalar.addi v264 v265
  v266.toNat
def k0_dev19 (d0 : Dev nD) : Nat :=
  let c0_i32_198 : BitVec 32 := 0#32
  let c1_i32_195 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v278 : BitVec 32 := Scalar.subi c1_i32_195 v2
  let c2_i32_197 : BitVec 32 := 2#32
  let v279 : BitVec 32 := Scalar.muli v278 c2_i32_197
  let v280 : BitVec 32 := Scalar.addi c0_i32_198 v279
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_199 : BitVec 32 := 1#32
  let v281 : BitVec 32 := Scalar.muli v5 c1_i32_199
  let v282 : BitVec 32 := Scalar.addi v280 v281
  v282.toNat
def k0_dev20 (d0 : Dev nD) : Nat :=
  let c0_i32_209 : BitVec 32 := 0#32
  let c1_i32_206 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v294 : BitVec 32 := Scalar.subi c1_i32_206 v2
  let c2_i32_208 : BitVec 32 := 2#32
  let v295 : BitVec 32 := Scalar.muli v294 c2_i32_208
  let v296 : BitVec 32 := Scalar.addi c0_i32_209 v295
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_210 : BitVec 32 := 1#32
  let v297 : BitVec 32 := Scalar.muli v5 c1_i32_210
  let v298 : BitVec 32 := Scalar.addi v296 v297
  v298.toNat
def k0_dev21 (d0 : Dev nD) : Nat :=
  let c0_i32_220 : BitVec 32 := 0#32
  let c1_i32_217 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v310 : BitVec 32 := Scalar.subi c1_i32_217 v2
  let c2_i32_219 : BitVec 32 := 2#32
  let v311 : BitVec 32 := Scalar.muli v310 c2_i32_219
  let v312 : BitVec 32 := Scalar.addi c0_i32_220 v311
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_221 : BitVec 32 := 1#32
  let v313 : BitVec 32 := Scalar.muli v5 c1_i32_221
  let v314 : BitVec 32 := Scalar.addi v312 v313
  v314.toNat
def k0_dev22 (d0 : Dev nD) : Nat :=
  let c0_i32_231 : BitVec 32 := 0#32
  let c1_i32_228 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v326 : BitVec 32 := Scalar.subi c1_i32_228 v2
  let c2_i32_230 : BitVec 32 := 2#32
  let v327 : BitVec 32 := Scalar.muli v326 c2_i32_230
  let v328 : BitVec 32 := Scalar.addi c0_i32_231 v327
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_232 : BitVec 32 := 1#32
  let v329 : BitVec 32 := Scalar.muli v5 c1_i32_232
  let v330 : BitVec 32 := Scalar.addi v328 v329
  v330.toNat
def k0_dev23 (d0 : Dev nD) : Nat :=
  let c0_i32_242 : BitVec 32 := 0#32
  let c1_i32_239 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v342 : BitVec 32 := Scalar.subi c1_i32_239 v2
  let c2_i32_241 : BitVec 32 := 2#32
  let v343 : BitVec 32 := Scalar.muli v342 c2_i32_241
  let v344 : BitVec 32 := Scalar.addi c0_i32_242 v343
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_243 : BitVec 32 := 1#32
  let v345 : BitVec 32 := Scalar.muli v5 c1_i32_243
  let v346 : BitVec 32 := Scalar.addi v344 v345
  v346.toNat
def k0_dev24 (d0 : Dev nD) : Nat :=
  let c0_i32_253 : BitVec 32 := 0#32
  let c1_i32_250 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v358 : BitVec 32 := Scalar.subi c1_i32_250 v2
  let c2_i32_252 : BitVec 32 := 2#32
  let v359 : BitVec 32 := Scalar.muli v358 c2_i32_252
  let v360 : BitVec 32 := Scalar.addi c0_i32_253 v359
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_254 : BitVec 32 := 1#32
  let v361 : BitVec 32 := Scalar.muli v5 c1_i32_254
  let v362 : BitVec 32 := Scalar.addi v360 v361
  v362.toNat
def k0_dev25 (d0 : Dev nD) : Nat :=
  let c0_i32_264 : BitVec 32 := 0#32
  let c1_i32_261 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v374 : BitVec 32 := Scalar.subi c1_i32_261 v2
  let c2_i32_263 : BitVec 32 := 2#32
  let v375 : BitVec 32 := Scalar.muli v374 c2_i32_263
  let v376 : BitVec 32 := Scalar.addi c0_i32_264 v375
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_265 : BitVec 32 := 1#32
  let v377 : BitVec 32 := Scalar.muli v5 c1_i32_265
  let v378 : BitVec 32 := Scalar.addi v376 v377
  v378.toNat
def k0_dev26 (d0 : Dev nD) : Nat :=
  let c0_i32_275 : BitVec 32 := 0#32
  let c1_i32_272 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v390 : BitVec 32 := Scalar.subi c1_i32_272 v2
  let c2_i32_274 : BitVec 32 := 2#32
  let v391 : BitVec 32 := Scalar.muli v390 c2_i32_274
  let v392 : BitVec 32 := Scalar.addi c0_i32_275 v391
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_276 : BitVec 32 := 1#32
  let v393 : BitVec 32 := Scalar.muli v5 c1_i32_276
  let v394 : BitVec 32 := Scalar.addi v392 v393
  v394.toNat
def k0_dev27 (d0 : Dev nD) : Nat :=
  let c0_i32_286 : BitVec 32 := 0#32
  let c1_i32_283 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v406 : BitVec 32 := Scalar.subi c1_i32_283 v2
  let c2_i32_285 : BitVec 32 := 2#32
  let v407 : BitVec 32 := Scalar.muli v406 c2_i32_285
  let v408 : BitVec 32 := Scalar.addi c0_i32_286 v407
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_287 : BitVec 32 := 1#32
  let v409 : BitVec 32 := Scalar.muli v5 c1_i32_287
  let v410 : BitVec 32 := Scalar.addi v408 v409
  v410.toNat
def k0_dev28 (d0 : Dev nD) : Nat :=
  let c0_i32_297 : BitVec 32 := 0#32
  let c1_i32_294 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v422 : BitVec 32 := Scalar.subi c1_i32_294 v2
  let c2_i32_296 : BitVec 32 := 2#32
  let v423 : BitVec 32 := Scalar.muli v422 c2_i32_296
  let v424 : BitVec 32 := Scalar.addi c0_i32_297 v423
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_298 : BitVec 32 := 1#32
  let v425 : BitVec 32 := Scalar.muli v5 c1_i32_298
  let v426 : BitVec 32 := Scalar.addi v424 v425
  v426.toNat
def k0_dev29 (d0 : Dev nD) : Nat :=
  let c0_i32_308 : BitVec 32 := 0#32
  let c1_i32_305 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v438 : BitVec 32 := Scalar.subi c1_i32_305 v2
  let c2_i32_307 : BitVec 32 := 2#32
  let v439 : BitVec 32 := Scalar.muli v438 c2_i32_307
  let v440 : BitVec 32 := Scalar.addi c0_i32_308 v439
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_309 : BitVec 32 := 1#32
  let v441 : BitVec 32 := Scalar.muli v5 c1_i32_309
  let v442 : BitVec 32 := Scalar.addi v440 v441
  v442.toNat
def k0_dev30 (d0 : Dev nD) : Nat :=
  let c0_i32_319 : BitVec 32 := 0#32
  let c1_i32_316 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v454 : BitVec 32 := Scalar.subi c1_i32_316 v2
  let c2_i32_318 : BitVec 32 := 2#32
  let v455 : BitVec 32 := Scalar.muli v454 c2_i32_318
  let v456 : BitVec 32 := Scalar.addi c0_i32_319 v455
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_320 : BitVec 32 := 1#32
  let v457 : BitVec 32 := Scalar.muli v5 c1_i32_320
  let v458 : BitVec 32 := Scalar.addi v456 v457
  v458.toNat
def k0_dev31 (d0 : Dev nD) : Nat :=
  let c0_i32_330 : BitVec 32 := 0#32
  let c1_i32_327 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v470 : BitVec 32 := Scalar.subi c1_i32_327 v2
  let c2_i32_329 : BitVec 32 := 2#32
  let v471 : BitVec 32 := Scalar.muli v470 c2_i32_329
  let v472 : BitVec 32 := Scalar.addi c0_i32_330 v471
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_331 : BitVec 32 := 1#32
  let v473 : BitVec 32 := Scalar.muli v5 c1_i32_331
  let v474 : BitVec 32 := Scalar.addi v472 v473
  v474.toNat
def k0_dev32 (d0 : Dev nD) : Nat :=
  let c0_i32_341 : BitVec 32 := 0#32
  let c1_i32_338 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v486 : BitVec 32 := Scalar.subi c1_i32_338 v2
  let c2_i32_340 : BitVec 32 := 2#32
  let v487 : BitVec 32 := Scalar.muli v486 c2_i32_340
  let v488 : BitVec 32 := Scalar.addi c0_i32_341 v487
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_342 : BitVec 32 := 1#32
  let v489 : BitVec 32 := Scalar.muli v5 c1_i32_342
  let v490 : BitVec 32 := Scalar.addi v488 v489
  v490.toNat
def k0_dev33 (d0 : Dev nD) : Nat :=
  let c0_i32_352 : BitVec 32 := 0#32
  let c1_i32_349 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v502 : BitVec 32 := Scalar.subi c1_i32_349 v2
  let c2_i32_351 : BitVec 32 := 2#32
  let v503 : BitVec 32 := Scalar.muli v502 c2_i32_351
  let v504 : BitVec 32 := Scalar.addi c0_i32_352 v503
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_353 : BitVec 32 := 1#32
  let v505 : BitVec 32 := Scalar.muli v5 c1_i32_353
  let v506 : BitVec 32 := Scalar.addi v504 v505
  v506.toNat
def k0_dev34 (d0 : Dev nD) : Nat :=
  let c0_i32_363 : BitVec 32 := 0#32
  let c1_i32_360 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v518 : BitVec 32 := Scalar.subi c1_i32_360 v2
  let c2_i32_362 : BitVec 32 := 2#32
  let v519 : BitVec 32 := Scalar.muli v518 c2_i32_362
  let v520 : BitVec 32 := Scalar.addi c0_i32_363 v519
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_364 : BitVec 32 := 1#32
  let v521 : BitVec 32 := Scalar.muli v5 c1_i32_364
  let v522 : BitVec 32 := Scalar.addi v520 v521
  v522.toNat
def k0_off1 (d0 : Dev nD) : Fin 2 → Nat :=
  let c0_382 : Index := 0#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32_381 : BitVec 32 := 1024#32
  let v540 : BitVec 32 := Scalar.muli v5 c1024_i32_381
  let v541 : Index := Scalar.indexCast v540
  ![0, v541.toNat]
def k0_off2 (d0 : Dev nD) : Fin 2 → Nat :=
  let c0_i32_391 : BitVec 32 := 0#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32_384 : BitVec 32 := 1024#32
  let v544 : BitVec 32 := Scalar.muli v5 c1024_i32_384
  ![0, v544.toNat]
def k0_dev35 (d0 : Dev nD) : Nat :=
  let c0_i32_389 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_388 : BitVec 32 := 2#32
  let v546 : BitVec 32 := Scalar.muli v2 c2_i32_388
  let v547 : BitVec 32 := Scalar.addi c0_i32_389 v546
  let c1_i32_385 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v545 : BitVec 32 := Scalar.subi c1_i32_385 v5
  let c1_i32_390 : BitVec 32 := 1#32
  let v548 : BitVec 32 := Scalar.muli v545 c1_i32_390
  let v549 : BitVec 32 := Scalar.addi v547 v548
  v549.toNat
def k0_off3 (d0 : Dev nD) : Fin 2 → Nat :=
  let c64_407 : Index := 64#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32_406 : BitVec 32 := 1024#32
  let v567 : BitVec 32 := Scalar.muli v5 c1024_i32_406
  let v568 : Index := Scalar.indexCast v567
  ![64, v568.toNat]
def k0_off4 (d0 : Dev nD) : Fin 2 → Nat :=
  let c64_i32_416 : BitVec 32 := 64#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32_409 : BitVec 32 := 1024#32
  let v571 : BitVec 32 := Scalar.muli v5 c1024_i32_409
  ![64, v571.toNat]
def k0_dev36 (d0 : Dev nD) : Nat :=
  let c0_i32_414 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_413 : BitVec 32 := 2#32
  let v573 : BitVec 32 := Scalar.muli v2 c2_i32_413
  let v574 : BitVec 32 := Scalar.addi c0_i32_414 v573
  let c1_i32_410 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v572 : BitVec 32 := Scalar.subi c1_i32_410 v5
  let c1_i32_415 : BitVec 32 := 1#32
  let v575 : BitVec 32 := Scalar.muli v572 c1_i32_415
  let v576 : BitVec 32 := Scalar.addi v574 v575
  v576.toNat
def k0_off5 (d0 : Dev nD) : Fin 2 → Nat :=
  let c128_432 : Index := 128#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32_431 : BitVec 32 := 1024#32
  let v594 : BitVec 32 := Scalar.muli v5 c1024_i32_431
  let v595 : Index := Scalar.indexCast v594
  ![128, v595.toNat]
def k0_off6 (d0 : Dev nD) : Fin 2 → Nat :=
  let c128_i32_441 : BitVec 32 := 128#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32_434 : BitVec 32 := 1024#32
  let v598 : BitVec 32 := Scalar.muli v5 c1024_i32_434
  ![128, v598.toNat]
def k0_dev37 (d0 : Dev nD) : Nat :=
  let c0_i32_439 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_438 : BitVec 32 := 2#32
  let v600 : BitVec 32 := Scalar.muli v2 c2_i32_438
  let v601 : BitVec 32 := Scalar.addi c0_i32_439 v600
  let c1_i32_435 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v599 : BitVec 32 := Scalar.subi c1_i32_435 v5
  let c1_i32_440 : BitVec 32 := 1#32
  let v602 : BitVec 32 := Scalar.muli v599 c1_i32_440
  let v603 : BitVec 32 := Scalar.addi v601 v602
  v603.toNat
def k0_off7 (d0 : Dev nD) : Fin 2 → Nat :=
  let c192_457 : Index := 192#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32_456 : BitVec 32 := 1024#32
  let v621 : BitVec 32 := Scalar.muli v5 c1024_i32_456
  let v622 : Index := Scalar.indexCast v621
  ![192, v622.toNat]
def k0_off8 (d0 : Dev nD) : Fin 2 → Nat :=
  let c192_i32_466 : BitVec 32 := 192#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32_459 : BitVec 32 := 1024#32
  let v625 : BitVec 32 := Scalar.muli v5 c1024_i32_459
  ![192, v625.toNat]
def k0_dev38 (d0 : Dev nD) : Nat :=
  let c0_i32_464 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_463 : BitVec 32 := 2#32
  let v627 : BitVec 32 := Scalar.muli v2 c2_i32_463
  let v628 : BitVec 32 := Scalar.addi c0_i32_464 v627
  let c1_i32_460 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v626 : BitVec 32 := Scalar.subi c1_i32_460 v5
  let c1_i32_465 : BitVec 32 := 1#32
  let v629 : BitVec 32 := Scalar.muli v626 c1_i32_465
  let v630 : BitVec 32 := Scalar.addi v628 v629
  v630.toNat
def k0_off9 (d0 : Dev nD) : Fin 2 → Nat :=
  let c256_482 : Index := 256#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32_481 : BitVec 32 := 1024#32
  let v648 : BitVec 32 := Scalar.muli v5 c1024_i32_481
  let v649 : Index := Scalar.indexCast v648
  ![256, v649.toNat]
def k0_off10 (d0 : Dev nD) : Fin 2 → Nat :=
  let c256_i32_491 : BitVec 32 := 256#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32_484 : BitVec 32 := 1024#32
  let v652 : BitVec 32 := Scalar.muli v5 c1024_i32_484
  ![256, v652.toNat]
def k0_dev39 (d0 : Dev nD) : Nat :=
  let c0_i32_489 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_488 : BitVec 32 := 2#32
  let v654 : BitVec 32 := Scalar.muli v2 c2_i32_488
  let v655 : BitVec 32 := Scalar.addi c0_i32_489 v654
  let c1_i32_485 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v653 : BitVec 32 := Scalar.subi c1_i32_485 v5
  let c1_i32_490 : BitVec 32 := 1#32
  let v656 : BitVec 32 := Scalar.muli v653 c1_i32_490
  let v657 : BitVec 32 := Scalar.addi v655 v656
  v657.toNat
def k0_off11 (d0 : Dev nD) : Fin 2 → Nat :=
  let c320_507 : Index := 320#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32_506 : BitVec 32 := 1024#32
  let v675 : BitVec 32 := Scalar.muli v5 c1024_i32_506
  let v676 : Index := Scalar.indexCast v675
  ![320, v676.toNat]
def k0_off12 (d0 : Dev nD) : Fin 2 → Nat :=
  let c320_i32_516 : BitVec 32 := 320#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32_509 : BitVec 32 := 1024#32
  let v679 : BitVec 32 := Scalar.muli v5 c1024_i32_509
  ![320, v679.toNat]
def k0_dev40 (d0 : Dev nD) : Nat :=
  let c0_i32_514 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_513 : BitVec 32 := 2#32
  let v681 : BitVec 32 := Scalar.muli v2 c2_i32_513
  let v682 : BitVec 32 := Scalar.addi c0_i32_514 v681
  let c1_i32_510 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v680 : BitVec 32 := Scalar.subi c1_i32_510 v5
  let c1_i32_515 : BitVec 32 := 1#32
  let v683 : BitVec 32 := Scalar.muli v680 c1_i32_515
  let v684 : BitVec 32 := Scalar.addi v682 v683
  v684.toNat
def k0_off13 (d0 : Dev nD) : Fin 2 → Nat :=
  let c384_532 : Index := 384#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32_531 : BitVec 32 := 1024#32
  let v702 : BitVec 32 := Scalar.muli v5 c1024_i32_531
  let v703 : Index := Scalar.indexCast v702
  ![384, v703.toNat]
def k0_off14 (d0 : Dev nD) : Fin 2 → Nat :=
  let c384_i32_541 : BitVec 32 := 384#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32_534 : BitVec 32 := 1024#32
  let v706 : BitVec 32 := Scalar.muli v5 c1024_i32_534
  ![384, v706.toNat]
def k0_dev41 (d0 : Dev nD) : Nat :=
  let c0_i32_539 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_538 : BitVec 32 := 2#32
  let v708 : BitVec 32 := Scalar.muli v2 c2_i32_538
  let v709 : BitVec 32 := Scalar.addi c0_i32_539 v708
  let c1_i32_535 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v707 : BitVec 32 := Scalar.subi c1_i32_535 v5
  let c1_i32_540 : BitVec 32 := 1#32
  let v710 : BitVec 32 := Scalar.muli v707 c1_i32_540
  let v711 : BitVec 32 := Scalar.addi v709 v710
  v711.toNat
def k0_off15 (d0 : Dev nD) : Fin 2 → Nat :=
  let c448_557 : Index := 448#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32_556 : BitVec 32 := 1024#32
  let v729 : BitVec 32 := Scalar.muli v5 c1024_i32_556
  let v730 : Index := Scalar.indexCast v729
  ![448, v730.toNat]
def k0_off16 (d0 : Dev nD) : Fin 2 → Nat :=
  let c448_i32_566 : BitVec 32 := 448#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32_559 : BitVec 32 := 1024#32
  let v733 : BitVec 32 := Scalar.muli v5 c1024_i32_559
  ![448, v733.toNat]
def k0_dev42 (d0 : Dev nD) : Nat :=
  let c0_i32_564 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_563 : BitVec 32 := 2#32
  let v735 : BitVec 32 := Scalar.muli v2 c2_i32_563
  let v736 : BitVec 32 := Scalar.addi c0_i32_564 v735
  let c1_i32_560 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v734 : BitVec 32 := Scalar.subi c1_i32_560 v5
  let c1_i32_565 : BitVec 32 := 1#32
  let v737 : BitVec 32 := Scalar.muli v734 c1_i32_565
  let v738 : BitVec 32 := Scalar.addi v736 v737
  v738.toNat
def k0_off17 (d0 : Dev nD) : Fin 2 → Nat :=
  let c512_582 : Index := 512#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32_581 : BitVec 32 := 1024#32
  let v756 : BitVec 32 := Scalar.muli v5 c1024_i32_581
  let v757 : Index := Scalar.indexCast v756
  ![512, v757.toNat]
def k0_off18 (d0 : Dev nD) : Fin 2 → Nat :=
  let c512_i32_591 : BitVec 32 := 512#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32_584 : BitVec 32 := 1024#32
  let v760 : BitVec 32 := Scalar.muli v5 c1024_i32_584
  ![512, v760.toNat]
def k0_dev43 (d0 : Dev nD) : Nat :=
  let c0_i32_589 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_588 : BitVec 32 := 2#32
  let v762 : BitVec 32 := Scalar.muli v2 c2_i32_588
  let v763 : BitVec 32 := Scalar.addi c0_i32_589 v762
  let c1_i32_585 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v761 : BitVec 32 := Scalar.subi c1_i32_585 v5
  let c1_i32_590 : BitVec 32 := 1#32
  let v764 : BitVec 32 := Scalar.muli v761 c1_i32_590
  let v765 : BitVec 32 := Scalar.addi v763 v764
  v765.toNat
def k0_off19 (d0 : Dev nD) : Fin 2 → Nat :=
  let c576_607 : Index := 576#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32_606 : BitVec 32 := 1024#32
  let v783 : BitVec 32 := Scalar.muli v5 c1024_i32_606
  let v784 : Index := Scalar.indexCast v783
  ![576, v784.toNat]
def k0_off20 (d0 : Dev nD) : Fin 2 → Nat :=
  let c576_i32_616 : BitVec 32 := 576#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32_609 : BitVec 32 := 1024#32
  let v787 : BitVec 32 := Scalar.muli v5 c1024_i32_609
  ![576, v787.toNat]
def k0_dev44 (d0 : Dev nD) : Nat :=
  let c0_i32_614 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_613 : BitVec 32 := 2#32
  let v789 : BitVec 32 := Scalar.muli v2 c2_i32_613
  let v790 : BitVec 32 := Scalar.addi c0_i32_614 v789
  let c1_i32_610 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v788 : BitVec 32 := Scalar.subi c1_i32_610 v5
  let c1_i32_615 : BitVec 32 := 1#32
  let v791 : BitVec 32 := Scalar.muli v788 c1_i32_615
  let v792 : BitVec 32 := Scalar.addi v790 v791
  v792.toNat
def k0_off21 (d0 : Dev nD) : Fin 2 → Nat :=
  let c640_632 : Index := 640#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32_631 : BitVec 32 := 1024#32
  let v810 : BitVec 32 := Scalar.muli v5 c1024_i32_631
  let v811 : Index := Scalar.indexCast v810
  ![640, v811.toNat]
def k0_off22 (d0 : Dev nD) : Fin 2 → Nat :=
  let c640_i32_641 : BitVec 32 := 640#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32_634 : BitVec 32 := 1024#32
  let v814 : BitVec 32 := Scalar.muli v5 c1024_i32_634
  ![640, v814.toNat]
def k0_dev45 (d0 : Dev nD) : Nat :=
  let c0_i32_639 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_638 : BitVec 32 := 2#32
  let v816 : BitVec 32 := Scalar.muli v2 c2_i32_638
  let v817 : BitVec 32 := Scalar.addi c0_i32_639 v816
  let c1_i32_635 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v815 : BitVec 32 := Scalar.subi c1_i32_635 v5
  let c1_i32_640 : BitVec 32 := 1#32
  let v818 : BitVec 32 := Scalar.muli v815 c1_i32_640
  let v819 : BitVec 32 := Scalar.addi v817 v818
  v819.toNat
def k0_off23 (d0 : Dev nD) : Fin 2 → Nat :=
  let c704_657 : Index := 704#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32_656 : BitVec 32 := 1024#32
  let v837 : BitVec 32 := Scalar.muli v5 c1024_i32_656
  let v838 : Index := Scalar.indexCast v837
  ![704, v838.toNat]
def k0_off24 (d0 : Dev nD) : Fin 2 → Nat :=
  let c704_i32_666 : BitVec 32 := 704#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32_659 : BitVec 32 := 1024#32
  let v841 : BitVec 32 := Scalar.muli v5 c1024_i32_659
  ![704, v841.toNat]
def k0_dev46 (d0 : Dev nD) : Nat :=
  let c0_i32_664 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_663 : BitVec 32 := 2#32
  let v843 : BitVec 32 := Scalar.muli v2 c2_i32_663
  let v844 : BitVec 32 := Scalar.addi c0_i32_664 v843
  let c1_i32_660 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v842 : BitVec 32 := Scalar.subi c1_i32_660 v5
  let c1_i32_665 : BitVec 32 := 1#32
  let v845 : BitVec 32 := Scalar.muli v842 c1_i32_665
  let v846 : BitVec 32 := Scalar.addi v844 v845
  v846.toNat
def k0_off25 (d0 : Dev nD) : Fin 2 → Nat :=
  let c768_682 : Index := 768#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32_681 : BitVec 32 := 1024#32
  let v864 : BitVec 32 := Scalar.muli v5 c1024_i32_681
  let v865 : Index := Scalar.indexCast v864
  ![768, v865.toNat]
def k0_off26 (d0 : Dev nD) : Fin 2 → Nat :=
  let c768_i32_691 : BitVec 32 := 768#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32_684 : BitVec 32 := 1024#32
  let v868 : BitVec 32 := Scalar.muli v5 c1024_i32_684
  ![768, v868.toNat]
def k0_dev47 (d0 : Dev nD) : Nat :=
  let c0_i32_689 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_688 : BitVec 32 := 2#32
  let v870 : BitVec 32 := Scalar.muli v2 c2_i32_688
  let v871 : BitVec 32 := Scalar.addi c0_i32_689 v870
  let c1_i32_685 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v869 : BitVec 32 := Scalar.subi c1_i32_685 v5
  let c1_i32_690 : BitVec 32 := 1#32
  let v872 : BitVec 32 := Scalar.muli v869 c1_i32_690
  let v873 : BitVec 32 := Scalar.addi v871 v872
  v873.toNat
def k0_off27 (d0 : Dev nD) : Fin 2 → Nat :=
  let c832_707 : Index := 832#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32_706 : BitVec 32 := 1024#32
  let v891 : BitVec 32 := Scalar.muli v5 c1024_i32_706
  let v892 : Index := Scalar.indexCast v891
  ![832, v892.toNat]
def k0_off28 (d0 : Dev nD) : Fin 2 → Nat :=
  let c832_i32_716 : BitVec 32 := 832#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32_709 : BitVec 32 := 1024#32
  let v895 : BitVec 32 := Scalar.muli v5 c1024_i32_709
  ![832, v895.toNat]
def k0_dev48 (d0 : Dev nD) : Nat :=
  let c0_i32_714 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_713 : BitVec 32 := 2#32
  let v897 : BitVec 32 := Scalar.muli v2 c2_i32_713
  let v898 : BitVec 32 := Scalar.addi c0_i32_714 v897
  let c1_i32_710 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v896 : BitVec 32 := Scalar.subi c1_i32_710 v5
  let c1_i32_715 : BitVec 32 := 1#32
  let v899 : BitVec 32 := Scalar.muli v896 c1_i32_715
  let v900 : BitVec 32 := Scalar.addi v898 v899
  v900.toNat
def k0_off29 (d0 : Dev nD) : Fin 2 → Nat :=
  let c896_732 : Index := 896#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32_731 : BitVec 32 := 1024#32
  let v918 : BitVec 32 := Scalar.muli v5 c1024_i32_731
  let v919 : Index := Scalar.indexCast v918
  ![896, v919.toNat]
def k0_off30 (d0 : Dev nD) : Fin 2 → Nat :=
  let c896_i32_741 : BitVec 32 := 896#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32_734 : BitVec 32 := 1024#32
  let v922 : BitVec 32 := Scalar.muli v5 c1024_i32_734
  ![896, v922.toNat]
def k0_dev49 (d0 : Dev nD) : Nat :=
  let c0_i32_739 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_738 : BitVec 32 := 2#32
  let v924 : BitVec 32 := Scalar.muli v2 c2_i32_738
  let v925 : BitVec 32 := Scalar.addi c0_i32_739 v924
  let c1_i32_735 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v923 : BitVec 32 := Scalar.subi c1_i32_735 v5
  let c1_i32_740 : BitVec 32 := 1#32
  let v926 : BitVec 32 := Scalar.muli v923 c1_i32_740
  let v927 : BitVec 32 := Scalar.addi v925 v926
  v927.toNat
def k0_off31 (d0 : Dev nD) : Fin 2 → Nat :=
  let c960_757 : Index := 960#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32_756 : BitVec 32 := 1024#32
  let v945 : BitVec 32 := Scalar.muli v5 c1024_i32_756
  let v946 : Index := Scalar.indexCast v945
  ![960, v946.toNat]
def k0_off32 (d0 : Dev nD) : Fin 2 → Nat :=
  let c960_i32_766 : BitVec 32 := 960#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32_759 : BitVec 32 := 1024#32
  let v949 : BitVec 32 := Scalar.muli v5 c1024_i32_759
  ![960, v949.toNat]
def k0_dev50 (d0 : Dev nD) : Nat :=
  let c0_i32_764 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_763 : BitVec 32 := 2#32
  let v951 : BitVec 32 := Scalar.muli v2 c2_i32_763
  let v952 : BitVec 32 := Scalar.addi c0_i32_764 v951
  let c1_i32_760 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v950 : BitVec 32 := Scalar.subi c1_i32_760 v5
  let c1_i32_765 : BitVec 32 := 1#32
  let v953 : BitVec 32 := Scalar.muli v950 c1_i32_765
  let v954 : BitVec 32 := Scalar.addi v952 v953
  v954.toNat
def k0_off33 (d0 : Dev nD) : Fin 2 → Nat :=
  let c1024_782 : Index := 1024#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32_781 : BitVec 32 := 1024#32
  let v972 : BitVec 32 := Scalar.muli v5 c1024_i32_781
  let v973 : Index := Scalar.indexCast v972
  ![1024, v973.toNat]
def k0_off34 (d0 : Dev nD) : Fin 2 → Nat :=
  let c1024_i32_791 : BitVec 32 := 1024#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32_784 : BitVec 32 := 1024#32
  let v976 : BitVec 32 := Scalar.muli v5 c1024_i32_784
  ![1024, v976.toNat]
def k0_dev51 (d0 : Dev nD) : Nat :=
  let c0_i32_789 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_788 : BitVec 32 := 2#32
  let v978 : BitVec 32 := Scalar.muli v2 c2_i32_788
  let v979 : BitVec 32 := Scalar.addi c0_i32_789 v978
  let c1_i32_785 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v977 : BitVec 32 := Scalar.subi c1_i32_785 v5
  let c1_i32_790 : BitVec 32 := 1#32
  let v980 : BitVec 32 := Scalar.muli v977 c1_i32_790
  let v981 : BitVec 32 := Scalar.addi v979 v980
  v981.toNat
def k0_off35 (d0 : Dev nD) : Fin 2 → Nat :=
  let c1088_807 : Index := 1088#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32_806 : BitVec 32 := 1024#32
  let v999 : BitVec 32 := Scalar.muli v5 c1024_i32_806
  let v1000 : Index := Scalar.indexCast v999
  ![1088, v1000.toNat]
def k0_off36 (d0 : Dev nD) : Fin 2 → Nat :=
  let c1088_i32_816 : BitVec 32 := 1088#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32_809 : BitVec 32 := 1024#32
  let v1003 : BitVec 32 := Scalar.muli v5 c1024_i32_809
  ![1088, v1003.toNat]
def k0_dev52 (d0 : Dev nD) : Nat :=
  let c0_i32_814 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_813 : BitVec 32 := 2#32
  let v1005 : BitVec 32 := Scalar.muli v2 c2_i32_813
  let v1006 : BitVec 32 := Scalar.addi c0_i32_814 v1005
  let c1_i32_810 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v1004 : BitVec 32 := Scalar.subi c1_i32_810 v5
  let c1_i32_815 : BitVec 32 := 1#32
  let v1007 : BitVec 32 := Scalar.muli v1004 c1_i32_815
  let v1008 : BitVec 32 := Scalar.addi v1006 v1007
  v1008.toNat
def k0_off37 (d0 : Dev nD) : Fin 2 → Nat :=
  let c1152_832 : Index := 1152#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32_831 : BitVec 32 := 1024#32
  let v1026 : BitVec 32 := Scalar.muli v5 c1024_i32_831
  let v1027 : Index := Scalar.indexCast v1026
  ![1152, v1027.toNat]
def k0_off38 (d0 : Dev nD) : Fin 2 → Nat :=
  let c1152_i32_841 : BitVec 32 := 1152#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32_834 : BitVec 32 := 1024#32
  let v1030 : BitVec 32 := Scalar.muli v5 c1024_i32_834
  ![1152, v1030.toNat]
def k0_dev53 (d0 : Dev nD) : Nat :=
  let c0_i32_839 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_838 : BitVec 32 := 2#32
  let v1032 : BitVec 32 := Scalar.muli v2 c2_i32_838
  let v1033 : BitVec 32 := Scalar.addi c0_i32_839 v1032
  let c1_i32_835 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v1031 : BitVec 32 := Scalar.subi c1_i32_835 v5
  let c1_i32_840 : BitVec 32 := 1#32
  let v1034 : BitVec 32 := Scalar.muli v1031 c1_i32_840
  let v1035 : BitVec 32 := Scalar.addi v1033 v1034
  v1035.toNat
def k0_off39 (d0 : Dev nD) : Fin 2 → Nat :=
  let c1216_857 : Index := 1216#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32_856 : BitVec 32 := 1024#32
  let v1053 : BitVec 32 := Scalar.muli v5 c1024_i32_856
  let v1054 : Index := Scalar.indexCast v1053
  ![1216, v1054.toNat]
def k0_off40 (d0 : Dev nD) : Fin 2 → Nat :=
  let c1216_i32_866 : BitVec 32 := 1216#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32_859 : BitVec 32 := 1024#32
  let v1057 : BitVec 32 := Scalar.muli v5 c1024_i32_859
  ![1216, v1057.toNat]
def k0_dev54 (d0 : Dev nD) : Nat :=
  let c0_i32_864 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_863 : BitVec 32 := 2#32
  let v1059 : BitVec 32 := Scalar.muli v2 c2_i32_863
  let v1060 : BitVec 32 := Scalar.addi c0_i32_864 v1059
  let c1_i32_860 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v1058 : BitVec 32 := Scalar.subi c1_i32_860 v5
  let c1_i32_865 : BitVec 32 := 1#32
  let v1061 : BitVec 32 := Scalar.muli v1058 c1_i32_865
  let v1062 : BitVec 32 := Scalar.addi v1060 v1061
  v1062.toNat
def k0_off41 (d0 : Dev nD) : Fin 2 → Nat :=
  let c1280_882 : Index := 1280#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32_881 : BitVec 32 := 1024#32
  let v1080 : BitVec 32 := Scalar.muli v5 c1024_i32_881
  let v1081 : Index := Scalar.indexCast v1080
  ![1280, v1081.toNat]
def k0_off42 (d0 : Dev nD) : Fin 2 → Nat :=
  let c1280_i32_891 : BitVec 32 := 1280#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32_884 : BitVec 32 := 1024#32
  let v1084 : BitVec 32 := Scalar.muli v5 c1024_i32_884
  ![1280, v1084.toNat]
def k0_dev55 (d0 : Dev nD) : Nat :=
  let c0_i32_889 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_888 : BitVec 32 := 2#32
  let v1086 : BitVec 32 := Scalar.muli v2 c2_i32_888
  let v1087 : BitVec 32 := Scalar.addi c0_i32_889 v1086
  let c1_i32_885 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v1085 : BitVec 32 := Scalar.subi c1_i32_885 v5
  let c1_i32_890 : BitVec 32 := 1#32
  let v1088 : BitVec 32 := Scalar.muli v1085 c1_i32_890
  let v1089 : BitVec 32 := Scalar.addi v1087 v1088
  v1089.toNat
def k0_off43 (d0 : Dev nD) : Fin 2 → Nat :=
  let c1344_907 : Index := 1344#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32_906 : BitVec 32 := 1024#32
  let v1107 : BitVec 32 := Scalar.muli v5 c1024_i32_906
  let v1108 : Index := Scalar.indexCast v1107
  ![1344, v1108.toNat]
def k0_off44 (d0 : Dev nD) : Fin 2 → Nat :=
  let c1344_i32_916 : BitVec 32 := 1344#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32_909 : BitVec 32 := 1024#32
  let v1111 : BitVec 32 := Scalar.muli v5 c1024_i32_909
  ![1344, v1111.toNat]
def k0_dev56 (d0 : Dev nD) : Nat :=
  let c0_i32_914 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_913 : BitVec 32 := 2#32
  let v1113 : BitVec 32 := Scalar.muli v2 c2_i32_913
  let v1114 : BitVec 32 := Scalar.addi c0_i32_914 v1113
  let c1_i32_910 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v1112 : BitVec 32 := Scalar.subi c1_i32_910 v5
  let c1_i32_915 : BitVec 32 := 1#32
  let v1115 : BitVec 32 := Scalar.muli v1112 c1_i32_915
  let v1116 : BitVec 32 := Scalar.addi v1114 v1115
  v1116.toNat
def k0_off45 (d0 : Dev nD) : Fin 2 → Nat :=
  let c1408_932 : Index := 1408#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32_931 : BitVec 32 := 1024#32
  let v1134 : BitVec 32 := Scalar.muli v5 c1024_i32_931
  let v1135 : Index := Scalar.indexCast v1134
  ![1408, v1135.toNat]
def k0_off46 (d0 : Dev nD) : Fin 2 → Nat :=
  let c1408_i32_941 : BitVec 32 := 1408#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32_934 : BitVec 32 := 1024#32
  let v1138 : BitVec 32 := Scalar.muli v5 c1024_i32_934
  ![1408, v1138.toNat]
def k0_dev57 (d0 : Dev nD) : Nat :=
  let c0_i32_939 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_938 : BitVec 32 := 2#32
  let v1140 : BitVec 32 := Scalar.muli v2 c2_i32_938
  let v1141 : BitVec 32 := Scalar.addi c0_i32_939 v1140
  let c1_i32_935 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v1139 : BitVec 32 := Scalar.subi c1_i32_935 v5
  let c1_i32_940 : BitVec 32 := 1#32
  let v1142 : BitVec 32 := Scalar.muli v1139 c1_i32_940
  let v1143 : BitVec 32 := Scalar.addi v1141 v1142
  v1143.toNat
def k0_off47 (d0 : Dev nD) : Fin 2 → Nat :=
  let c1472_957 : Index := 1472#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32_956 : BitVec 32 := 1024#32
  let v1161 : BitVec 32 := Scalar.muli v5 c1024_i32_956
  let v1162 : Index := Scalar.indexCast v1161
  ![1472, v1162.toNat]
def k0_off48 (d0 : Dev nD) : Fin 2 → Nat :=
  let c1472_i32_966 : BitVec 32 := 1472#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32_959 : BitVec 32 := 1024#32
  let v1165 : BitVec 32 := Scalar.muli v5 c1024_i32_959
  ![1472, v1165.toNat]
def k0_dev58 (d0 : Dev nD) : Nat :=
  let c0_i32_964 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_963 : BitVec 32 := 2#32
  let v1167 : BitVec 32 := Scalar.muli v2 c2_i32_963
  let v1168 : BitVec 32 := Scalar.addi c0_i32_964 v1167
  let c1_i32_960 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v1166 : BitVec 32 := Scalar.subi c1_i32_960 v5
  let c1_i32_965 : BitVec 32 := 1#32
  let v1169 : BitVec 32 := Scalar.muli v1166 c1_i32_965
  let v1170 : BitVec 32 := Scalar.addi v1168 v1169
  v1170.toNat
def k0_off49 (d0 : Dev nD) : Fin 2 → Nat :=
  let c1536_982 : Index := 1536#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32_981 : BitVec 32 := 1024#32
  let v1188 : BitVec 32 := Scalar.muli v5 c1024_i32_981
  let v1189 : Index := Scalar.indexCast v1188
  ![1536, v1189.toNat]
def k0_off50 (d0 : Dev nD) : Fin 2 → Nat :=
  let c1536_i32_991 : BitVec 32 := 1536#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32_984 : BitVec 32 := 1024#32
  let v1192 : BitVec 32 := Scalar.muli v5 c1024_i32_984
  ![1536, v1192.toNat]
def k0_dev59 (d0 : Dev nD) : Nat :=
  let c0_i32_989 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_988 : BitVec 32 := 2#32
  let v1194 : BitVec 32 := Scalar.muli v2 c2_i32_988
  let v1195 : BitVec 32 := Scalar.addi c0_i32_989 v1194
  let c1_i32_985 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v1193 : BitVec 32 := Scalar.subi c1_i32_985 v5
  let c1_i32_990 : BitVec 32 := 1#32
  let v1196 : BitVec 32 := Scalar.muli v1193 c1_i32_990
  let v1197 : BitVec 32 := Scalar.addi v1195 v1196
  v1197.toNat
def k0_off51 (d0 : Dev nD) : Fin 2 → Nat :=
  let c1600_1007 : Index := 1600#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32_1006 : BitVec 32 := 1024#32
  let v1215 : BitVec 32 := Scalar.muli v5 c1024_i32_1006
  let v1216 : Index := Scalar.indexCast v1215
  ![1600, v1216.toNat]
def k0_off52 (d0 : Dev nD) : Fin 2 → Nat :=
  let c1600_i32_1016 : BitVec 32 := 1600#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32_1009 : BitVec 32 := 1024#32
  let v1219 : BitVec 32 := Scalar.muli v5 c1024_i32_1009
  ![1600, v1219.toNat]
def k0_dev60 (d0 : Dev nD) : Nat :=
  let c0_i32_1014 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1013 : BitVec 32 := 2#32
  let v1221 : BitVec 32 := Scalar.muli v2 c2_i32_1013
  let v1222 : BitVec 32 := Scalar.addi c0_i32_1014 v1221
  let c1_i32_1010 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v1220 : BitVec 32 := Scalar.subi c1_i32_1010 v5
  let c1_i32_1015 : BitVec 32 := 1#32
  let v1223 : BitVec 32 := Scalar.muli v1220 c1_i32_1015
  let v1224 : BitVec 32 := Scalar.addi v1222 v1223
  v1224.toNat
def k0_off53 (d0 : Dev nD) : Fin 2 → Nat :=
  let c1664_1032 : Index := 1664#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32_1031 : BitVec 32 := 1024#32
  let v1242 : BitVec 32 := Scalar.muli v5 c1024_i32_1031
  let v1243 : Index := Scalar.indexCast v1242
  ![1664, v1243.toNat]
def k0_off54 (d0 : Dev nD) : Fin 2 → Nat :=
  let c1664_i32_1041 : BitVec 32 := 1664#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32_1034 : BitVec 32 := 1024#32
  let v1246 : BitVec 32 := Scalar.muli v5 c1024_i32_1034
  ![1664, v1246.toNat]
def k0_dev61 (d0 : Dev nD) : Nat :=
  let c0_i32_1039 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1038 : BitVec 32 := 2#32
  let v1248 : BitVec 32 := Scalar.muli v2 c2_i32_1038
  let v1249 : BitVec 32 := Scalar.addi c0_i32_1039 v1248
  let c1_i32_1035 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v1247 : BitVec 32 := Scalar.subi c1_i32_1035 v5
  let c1_i32_1040 : BitVec 32 := 1#32
  let v1250 : BitVec 32 := Scalar.muli v1247 c1_i32_1040
  let v1251 : BitVec 32 := Scalar.addi v1249 v1250
  v1251.toNat
def k0_off55 (d0 : Dev nD) : Fin 2 → Nat :=
  let c1728_1057 : Index := 1728#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32_1056 : BitVec 32 := 1024#32
  let v1269 : BitVec 32 := Scalar.muli v5 c1024_i32_1056
  let v1270 : Index := Scalar.indexCast v1269
  ![1728, v1270.toNat]
def k0_off56 (d0 : Dev nD) : Fin 2 → Nat :=
  let c1728_i32_1066 : BitVec 32 := 1728#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32_1059 : BitVec 32 := 1024#32
  let v1273 : BitVec 32 := Scalar.muli v5 c1024_i32_1059
  ![1728, v1273.toNat]
def k0_dev62 (d0 : Dev nD) : Nat :=
  let c0_i32_1064 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1063 : BitVec 32 := 2#32
  let v1275 : BitVec 32 := Scalar.muli v2 c2_i32_1063
  let v1276 : BitVec 32 := Scalar.addi c0_i32_1064 v1275
  let c1_i32_1060 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v1274 : BitVec 32 := Scalar.subi c1_i32_1060 v5
  let c1_i32_1065 : BitVec 32 := 1#32
  let v1277 : BitVec 32 := Scalar.muli v1274 c1_i32_1065
  let v1278 : BitVec 32 := Scalar.addi v1276 v1277
  v1278.toNat
def k0_off57 (d0 : Dev nD) : Fin 2 → Nat :=
  let c1792_1082 : Index := 1792#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32_1081 : BitVec 32 := 1024#32
  let v1296 : BitVec 32 := Scalar.muli v5 c1024_i32_1081
  let v1297 : Index := Scalar.indexCast v1296
  ![1792, v1297.toNat]
def k0_off58 (d0 : Dev nD) : Fin 2 → Nat :=
  let c1792_i32_1091 : BitVec 32 := 1792#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32_1084 : BitVec 32 := 1024#32
  let v1300 : BitVec 32 := Scalar.muli v5 c1024_i32_1084
  ![1792, v1300.toNat]
def k0_dev63 (d0 : Dev nD) : Nat :=
  let c0_i32_1089 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1088 : BitVec 32 := 2#32
  let v1302 : BitVec 32 := Scalar.muli v2 c2_i32_1088
  let v1303 : BitVec 32 := Scalar.addi c0_i32_1089 v1302
  let c1_i32_1085 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v1301 : BitVec 32 := Scalar.subi c1_i32_1085 v5
  let c1_i32_1090 : BitVec 32 := 1#32
  let v1304 : BitVec 32 := Scalar.muli v1301 c1_i32_1090
  let v1305 : BitVec 32 := Scalar.addi v1303 v1304
  v1305.toNat
def k0_off59 (d0 : Dev nD) : Fin 2 → Nat :=
  let c1856_1107 : Index := 1856#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32_1106 : BitVec 32 := 1024#32
  let v1323 : BitVec 32 := Scalar.muli v5 c1024_i32_1106
  let v1324 : Index := Scalar.indexCast v1323
  ![1856, v1324.toNat]
def k0_off60 (d0 : Dev nD) : Fin 2 → Nat :=
  let c1856_i32_1116 : BitVec 32 := 1856#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32_1109 : BitVec 32 := 1024#32
  let v1327 : BitVec 32 := Scalar.muli v5 c1024_i32_1109
  ![1856, v1327.toNat]
def k0_dev64 (d0 : Dev nD) : Nat :=
  let c0_i32_1114 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1113 : BitVec 32 := 2#32
  let v1329 : BitVec 32 := Scalar.muli v2 c2_i32_1113
  let v1330 : BitVec 32 := Scalar.addi c0_i32_1114 v1329
  let c1_i32_1110 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v1328 : BitVec 32 := Scalar.subi c1_i32_1110 v5
  let c1_i32_1115 : BitVec 32 := 1#32
  let v1331 : BitVec 32 := Scalar.muli v1328 c1_i32_1115
  let v1332 : BitVec 32 := Scalar.addi v1330 v1331
  v1332.toNat
def k0_off61 (d0 : Dev nD) : Fin 2 → Nat :=
  let c1920_1132 : Index := 1920#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32_1131 : BitVec 32 := 1024#32
  let v1350 : BitVec 32 := Scalar.muli v5 c1024_i32_1131
  let v1351 : Index := Scalar.indexCast v1350
  ![1920, v1351.toNat]
def k0_off62 (d0 : Dev nD) : Fin 2 → Nat :=
  let c1920_i32_1141 : BitVec 32 := 1920#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32_1134 : BitVec 32 := 1024#32
  let v1354 : BitVec 32 := Scalar.muli v5 c1024_i32_1134
  ![1920, v1354.toNat]
def k0_dev65 (d0 : Dev nD) : Nat :=
  let c0_i32_1139 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1138 : BitVec 32 := 2#32
  let v1356 : BitVec 32 := Scalar.muli v2 c2_i32_1138
  let v1357 : BitVec 32 := Scalar.addi c0_i32_1139 v1356
  let c1_i32_1135 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v1355 : BitVec 32 := Scalar.subi c1_i32_1135 v5
  let c1_i32_1140 : BitVec 32 := 1#32
  let v1358 : BitVec 32 := Scalar.muli v1355 c1_i32_1140
  let v1359 : BitVec 32 := Scalar.addi v1357 v1358
  v1359.toNat
def k0_off63 (d0 : Dev nD) : Fin 2 → Nat :=
  let c1984_1157 : Index := 1984#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32_1156 : BitVec 32 := 1024#32
  let v1377 : BitVec 32 := Scalar.muli v5 c1024_i32_1156
  let v1378 : Index := Scalar.indexCast v1377
  ![1984, v1378.toNat]
def k0_off64 (d0 : Dev nD) : Fin 2 → Nat :=
  let c1984_i32_1166 : BitVec 32 := 1984#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32_1159 : BitVec 32 := 1024#32
  let v1381 : BitVec 32 := Scalar.muli v5 c1024_i32_1159
  ![1984, v1381.toNat]
def k0_dev66 (d0 : Dev nD) : Nat :=
  let c0_i32_1164 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1163 : BitVec 32 := 2#32
  let v1383 : BitVec 32 := Scalar.muli v2 c2_i32_1163
  let v1384 : BitVec 32 := Scalar.addi c0_i32_1164 v1383
  let c1_i32_1160 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v1382 : BitVec 32 := Scalar.subi c1_i32_1160 v5
  let c1_i32_1165 : BitVec 32 := 1#32
  let v1385 : BitVec 32 := Scalar.muli v1382 c1_i32_1165
  let v1386 : BitVec 32 := Scalar.addi v1384 v1385
  v1386.toNat
abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x2048 : Shape := ⟨2, ![4096, 2048]⟩
abbrev S2x2048x2048 : Shape := ⟨3, ![2, 2048, 2048]⟩
abbrev S_ : Shape := ⟨0, ![]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2x2048x2048, .bf16⟩
  | .hbm, ⟨2, _⟩ => ⟨S2x2048x2048, .f32⟩
  | .hbm, ⟨3, _⟩ => ⟨S_, .f32⟩
  | .hbm, ⟨4, _⟩ => ⟨S2048x2048, .f32⟩
  | .hbm, ⟨5, _⟩ => ⟨S2048x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Proof.Chunks.lean ====
/-
The kernel body as three loops over the 32 chunks of rows.

The printed body names every chunk's rows, columns and target device by a constant or an offset function of its own.
Here chunk `i` is a variable: its rows are `64 i …`, its offset functions and devices are read from four tables, and the
three loops of the kernel — store and send, receive and add and send on, wait — are loops over one list of chunks.
-/
module

public import proofs.«01_k».proof.Proof.Gen.KernelIdeal
public import proofs.«01_k».proof.Proof.Gen.KernelIdeal.Skeleton
public import proofs.«01_k».proof.Proof.Gen.KernelIdeal.Launch

@[expose] public section

noncomputable section

namespace Cert.AllReduce

open Cert.KernelIdeal Cert.KernelIdeal.Gen
open Idealize.ShloMosaic Idealize.ShloMosaic.TcCoe
open Idealize.SL Idealize.SL.Sem

variable {F : FTy → Type} [FloatOps F]

/-! ## The four tables -/

/-- Chunk `i`'s target in the first exchange, as printed. -/
def xTab : Fin 32 → Dev nD → ℕ :=
  ![k0_dev3, k0_dev4, k0_dev5, k0_dev6, k0_dev7, k0_dev8, k0_dev9, k0_dev10,
    k0_dev11, k0_dev12, k0_dev13, k0_dev14, k0_dev15, k0_dev16, k0_dev17, k0_dev18,
    k0_dev19, k0_dev20, k0_dev21, k0_dev22, k0_dev23, k0_dev24, k0_dev25, k0_dev26,
    k0_dev27, k0_dev28, k0_dev29, k0_dev30, k0_dev31, k0_dev32, k0_dev33, k0_dev34]
/-- Chunk `i`'s target in the second exchange, as printed. -/
def yTab : Fin 32 → Dev nD → ℕ :=
  ![k0_dev35, k0_dev36, k0_dev37, k0_dev38, k0_dev39, k0_dev40, k0_dev41, k0_dev42,
    k0_dev43, k0_dev44, k0_dev45, k0_dev46, k0_dev47, k0_dev48, k0_dev49, k0_dev50,
    k0_dev51, k0_dev52, k0_dev53, k0_dev54, k0_dev55, k0_dev56, k0_dev57, k0_dev58,
    k0_dev59, k0_dev60, k0_dev61, k0_dev62, k0_dev63, k0_dev64, k0_dev65, k0_dev66]
/-- Where chunk `i`'s sum is stored, as printed. -/
def stTab : Fin 32 → Dev nD → Fin 2 → ℕ :=
  ![k0_off1, k0_off3, k0_off5, k0_off7, k0_off9, k0_off11, k0_off13, k0_off15,
    k0_off17, k0_off19, k0_off21, k0_off23, k0_off25, k0_off27, k0_off29, k0_off31,
    k0_off33, k0_off35, k0_off37, k0_off39, k0_off41, k0_off43, k0_off45, k0_off47,
    k0_off49, k0_off51, k0_off53, k0_off55, k0_off57, k0_off59, k0_off61, k0_off63]
/-- Where chunk `i`'s sum is sent from and to, as printed. -/
def snTab : Fin 32 → Dev nD → Fin 2 → ℕ :=
  ![k0_off2, k0_off4, k0_off6, k0_off8, k0_off10, k0_off12, k0_off14, k0_off16,
    k0_off18, k0_off20, k0_off22, k0_off24, k0_off26, k0_off28, k0_off30, k0_off32,
    k0_off34, k0_off36, k0_off38, k0_off40, k0_off42, k0_off44, k0_off46, k0_off48,
    k0_off50, k0_off52, k0_off54, k0_off56, k0_off58, k0_off60, k0_off62, k0_off64]

theorem xTab_lt (i : Fin 32) (d : Dev nD) : xTab i d < nD := by revert i d; decide +kernel
theorem yTab_lt (i : Fin 32) (d : Dev nD) : yTab i d < nD := by revert i d; decide +kernel
theorem stTab_inb (i : Fin 32) (d : Dev nD) : ∀ a, stTab i d a + S64x1024.size a ≤ S2048x2048.size a := by revert i d; decide +kernel
theorem snTab_inb (i : Fin 32) (d : Dev nD) : ∀ a, snTab i d a + S64x1024.size a ≤ S2048x2048.size a := by revert i d; decide +kernel
theorem stTab_eq (i : Fin 32) (d : Dev nD) : stTab i d = ![64 * i.val, 1024 * (d.val % 2)] := by revert i d; decide +kernel
theorem snTab_eq (i : Fin 32) (d : Dev nD) : snTab i d = ![64 * i.val, 1024 * (d.val % 2)] := by revert i d; decide +kernel

/-! ## The buffers, the semaphores, and chunk `i` of each -/

/-- The block of `x`, the result, the copy of the block that is sent, and the buffer the neighbour's block lands in. -/
abbrev xM : Memref sig .tc .vmem S2048x1024 .bf16 := Memref.whole cc0_stg0_0
abbrev oM : Memref sig .tc .vmem S2048x2048 .bf16 := Memref.whole cc0_stg1_0
abbrev bM : Memref sig .tc .vmem S2048x1024 .bf16 := Memref.whole cc0_scratch0
abbrev rM : Memref sig .tc .vmem S2048x1024 .bf16 := Memref.whole cc0_scratch1

theorem rows_inb (i : Fin 32) : ∀ a, (![64 * i.val, 0] : Fin 2 → ℕ) a + S64x1024.size a ≤ S2048x1024.size a := by revert i; decide
theorem sem_inb (i : Fin 32) : ∀ a, (![i.val] : Fin 1 → ℕ) a + S1.size a ≤ S32.size a := by revert i; decide

/-- Rows `64 i …` of a block, all columns. -/
abbrev rows (i : Fin 32) : Rect S2048x1024 := Rect.unit (s := S2048x1024) ![64 * i.val, 0] S64x1024.size (rows_inb i)
/-- A chunk of the result at the offsets `off`. -/
abbrev part (off : Fin 2 → ℕ) (h : ∀ a, off a + S64x1024.size a ≤ S2048x2048.size a) : Rect S2048x2048 :=
  Rect.unit (s := S2048x2048) off S64x1024.size h

theorem rows_packed (i : Fin 32) : (rows i).PackedRows (EltTy.packing .bf16) := by revert i; decide +kernel
theorem rows_words (i : Fin 32) : (rows i).WholeWords (EltTy.packing .bf16) := by revert i; decide +kernel
theorem st_packed (i : Fin 32) (d : Dev nD) : (part (stTab i d) (stTab_inb i d)).PackedRows (EltTy.packing .bf16) := by revert i d; decide +kernel
theorem sn_words (i : Fin 32) (d : Dev nD) : (part (snTab i d) (snTab_inb i d)).WholeWords (EltTy.packing .bf16) := by revert i d; decide +kernel

/-- Chunk `i` of the copy and of the landing buffer, and a chunk of the result. -/
abbrev bC (i : Fin 32) : Memref sig .tc .vmem S64x1024 .bf16 := bM.slice (rows i) (fun _ => rfl)
abbrev rC (i : Fin 32) : Memref sig .tc .vmem S64x1024 .bf16 := rM.slice (rows i) (fun _ => rfl)
abbrev oC (off : Fin 2 → ℕ) (h : ∀ a, off a + S64x1024.size a ≤ S2048x2048.size a) : Memref sig .tc .vmem S64x1024 .bf16 :=
  oM.slice (part off h) (fun _ => rfl)

/-- Member `i` of a family of 32 copy semaphores. -/
abbrev semAt (s : DmaSems sig S32) (i : Fin 32) : DmaSem sig :=
  ((s.slice (Rect.unit (s := S32) ![i.val] S1.size (sem_inb i))).squeeze S_ squeezes_S1_S_).sem
/-- The semaphores of the first exchange (sent, received) and of the second. -/
abbrev s1 (i : Fin 32) : DmaSem sig := semAt cc0_scratch2 i
abbrev r1 (i : Fin 32) : DmaSem sig := semAt cc0_scratch3 i
abbrev s2 (i : Fin 32) : DmaSem sig := semAt cc0_scratch4 i
abbrev r2 (i : Fin 32) : DmaSem sig := semAt cc0_scratch5 i
/-- The barrier semaphore. -/
abbrev barS : Sem sig := (SemArray.scalar (sig.barrier 0 rfl) : Sems sig S_).sem

/-! ## One pass of each loop -/

/-- First loop, at target `n`: copy chunk `i` of the block, and send the copy. -/
def stage1At (n : Dev nD) (i : Fin 32) : Prog (TpuEff nD τ sig (Elt F) Λ₀ .tc) PUnit := do
  let v : Vec F S64x1024 .bf16 ← Prog.lift (.load xM (rows i).toLoadRect (View.loadsAt_vmem h_S64x1024))
  let _w : Vec F S64x1024 .bf16 ← Prog.lift (.load bM (rows i).toLoadRect (View.loadsAt_vmem h_S64x1024))
  Prog.lift (.store bM (rows i) (k0_pay1 v) Finset.univ
    (View.stores_vmem h_S64x1024 ((Memref.isWhole_whole _).storeExact_slice rfl _ (rows_packed i)) (fun _ => rfl)) (.inl rfl))
  Prog.lift (.enqueueDma (bC i) (.remote (Dev.tc n) (rC i) (.dma (s1 i))) (.dma (r1 i))
    ((Memref.isWhole_whole _).wordExact_slice rfl _ (rows_words i)) ((Memref.isWhole_whole _).wordExact_slice rfl _ (rows_words i))
    ⟨⟨rfl, Or.inl rfl⟩, trivial⟩)

/-- Second loop, at target `n`, storing at `so` and sending from and to `no`: wait for the neighbour's chunk `i`, store
    the sum, and send it. -/
def stage2At (so : Fin 2 → ℕ) (hso : ∀ a, so a + S64x1024.size a ≤ S2048x2048.size a) (hp : (part so hso).PackedRows (EltTy.packing .bf16))
    (no : Fin 2 → ℕ) (hno : ∀ a, no a + S64x1024.size a ≤ S2048x2048.size a) (hw : (part no hno).WholeWords (EltTy.packing .bf16))
    (n : Dev nD) (i : Fin 32) : Prog (TpuEff nD τ sig (Elt F) Λ₀ .tc) PUnit := do
  Prog.lift (.waitDma2 (r1 i) (bC i) (rC i)
    ((Memref.isWhole_whole _).wordExact_slice rfl _ (rows_words i)) ((Memref.isWhole_whole _).wordExact_slice rfl _ (rows_words i)))
  let v : Vec F S64x1024 .bf16 ← Prog.lift (.load bM (rows i).toLoadRect (View.loadsAt_vmem h_S64x1024))
  let w : Vec F S64x1024 .bf16 ← Prog.lift (.load rM (rows i).toLoadRect (View.loadsAt_vmem h_S64x1024))
  let _u : Vec F S64x1024 .bf16 ← Prog.lift (.load oM (part so hso).toLoadRect (View.loadsAt_vmem h_S64x1024))
  Prog.lift (.store oM (part so hso) (k0_pay35 v w) Finset.univ
    (View.stores_vmem h_S64x1024 ((Memref.isWhole_whole _).storeExact_slice rfl _ hp) (fun _ => rfl)) (.inl rfl))
  Prog.lift (.enqueueDma (oC no hno) (.remote (Dev.tc n) (oC no hno) (.dma (s2 i))) (.dma (r2 i))
    ((Memref.isWhole_whole _).wordExact_slice rfl _ hw) ((Memref.isWhole_whole _).wordExact_slice rfl _ hw)
    ⟨⟨rfl, Or.inl rfl⟩, trivial⟩)

/-- Third loop, the second exchange's chunk at `no`: wait until both of chunk `i`'s copies have left, and the other
    half's chunk `i` has arrived. -/
def stage3At (no : Fin 2 → ℕ) (hno : ∀ a, no a + S64x1024.size a ≤ S2048x2048.size a) (hw : (part no hno).WholeWords (EltTy.packing .bf16))
    (i : Fin 32) : Prog (TpuEff nD τ sig (Elt F) Λ₀ .tc) PUnit := do
  Prog.lift (.waitDma2 (s1 i) (rC i) (bC i)
    ((Memref.isWhole_whole _).wordExact_slice rfl _ (rows_words i)) ((Memref.isWhole_whole _).wordExact_slice rfl _ (rows_words i)))
  Prog.lift (.waitDma2 (s2 i) (oC no hno) (oC no hno)
    ((Memref.isWhole_whole _).wordExact_slice rfl _ hw) ((Memref.isWhole_whole _).wordExact_slice rfl _ hw))
  Prog.lift (.waitDma2 (r2 i) (oC no hno) (oC no hno)
    ((Memref.isWhole_whole _).wordExact_slice rfl _ hw) ((Memref.isWhole_whole _).wordExact_slice rfl _ hw))

/-- The passes at the printed devices and offsets. -/
def tab1 (d : Dev nD) (i : Fin 32) : Prog (TpuEff nD τ sig (Elt F) Λ₀ .tc) PUnit := stage1At ⟨xTab i d, xTab_lt i d⟩ i
def tab2 (d : Dev nD) (i : Fin 32) : Prog (TpuEff nD τ sig (Elt F) Λ₀ .tc) PUnit :=
  stage2At (stTab i d) (stTab_inb i d) (st_packed i d) (snTab i d) (snTab_inb i d) (sn_words i d) ⟨yTab i d, yTab_lt i d⟩ i
def tab3 (d : Dev nD) (i : Fin 32) : Prog (TpuEff nD τ sig (Elt F) Λ₀ .tc) PUnit :=
  stage3At (snTab i d) (snTab_inb i d) (sn_words i d) i

/-- The passes `f i` for the chunks `i` of a list, then `k`. -/
def loop {E : Type → Type} (f : Fin 32 → Prog E PUnit) : List (Fin 32) → Prog E PUnit → Prog E PUnit
  | [], k => k
  | i :: l, k => f i >>= fun _ => loop f l k

/-- All chunks, in program order. -/
def chunks : List (Fin 32) :=
  [0, 1, 2, 3, 4, 5, 6, 7, 8, 9, 10, 11, 12, 13, 14, 15, 16, 17, 18, 19, 20, 21, 22, 23, 24, 25, 26, 27, 28, 29, 30, 31]

/-- The whole body at the printed devices and offsets: the barrier, then the three loops. -/
def bodyTab : Prog (TpuEff nD τ sig (Elt F) Λ₀ .tc) PUnit := do
  let d : Dev nD ← Prog.lift .deviceId
  semSignalWord (⟨k0_dev1 d, k0_dev1_lt d⟩ : Dev nD) barS 1#32
  semSignalWord (⟨k0_dev2 d, k0_dev2_lt d⟩ : Dev nD) barS 1#32
  semWaitWord barS 2#32
  loop (tab1 d) chunks (loop (tab2 d) chunks (loop (tab3 d) chunks (pure ⟨⟩)))

set_option maxRecDepth 65536 in
/-- The printed body is the three loops, operation by operation. -/
theorem printed_eq_tab : (cc0_body xM (Memref.isWhole_whole _) oM (Memref.isWhole_whole _) bM (Memref.isWhole_whole _) rM (Memref.isWhole_whole _)
    cc0_scratch2 cc0_scratch3 cc0_scratch4 cc0_scratch5 : Prog (TpuEff nD τ sig (Elt F) Λ₀ .tc) PUnit) = bodyTab := by
  chain_rfl

/-! ## The devices and offsets in closed form -/

set_option backward.proofsInPublic true in
/-- The neighbour along `x`: device `2 mx + my` goes to `2 (1 - mx) + my`. -/
def X (d : Dev nD) : Dev nD := ⟨(d.val % 2 + 2) - 2 * (d.val / 2), by revert d; decide⟩
set_option backward.proofsInPublic true in
/-- The neighbour along `y`: device `2 mx + my` goes to `2 mx + (1 - my)`. -/
def Y (d : Dev nD) : Dev nD := ⟨(2 * (d.val / 2) + 1) - d.val % 2, by revert d; decide⟩

theorem X_X (d : Dev nD) : X (X d) = d := by revert d; decide
theorem Y_Y (d : Dev nD) : Y (Y d) = d := by revert d; decide

theorem xTab_eq (i : Fin 32) (d : Dev nD) : (⟨xTab i d, xTab_lt i d⟩ : Dev nD) = X d := by revert i d; decide +kernel
theorem yTab_eq (i : Fin 32) (d : Dev nD) : (⟨yTab i d, yTab_lt i d⟩ : Dev nD) = Y d := by revert i d; decide +kernel
theorem dev1_eq (d : Dev nD) : (⟨k0_dev1 d, k0_dev1_lt d⟩ : Dev nD) = X d := Fin.ext (k0_dev1_eq d)
theorem dev2_eq (d : Dev nD) : (⟨k0_dev2 d, k0_dev2_lt d⟩ : Dev nD) = Y d := Fin.ext (k0_dev2_eq d)

/-- Where device `d`'s own sum of chunk `i` stands in the result: rows `64 i …`, the half of the columns numbered `my`. -/
abbrev oOff (d : Dev nD) (i : Fin 32) : Fin 2 → ℕ := ![64 * i.val, 1024 * (d.val % 2)]
theorem oOff_inb (d : Dev nD) (i : Fin 32) : ∀ a, oOff d i a + S64x1024.size a ≤ S2048x2048.size a := by revert d i; decide +kernel
theorem oOff_packed (d : Dev nD) (i : Fin 32) : (part (oOff d i) (oOff_inb d i)).PackedRows (EltTy.packing .bf16) := by revert d i; decide +kernel
theorem oOff_words (d : Dev nD) (i : Fin 32) : (part (oOff d i) (oOff_inb d i)).WholeWords (EltTy.packing .bf16) := by revert d i; decide +kernel

/-- Device `d`'s own chunk `i` of the result: its rectangle, and the result through it. -/
abbrev oR (d : Dev nD) (i : Fin 32) : Rect S2048x2048 := part (oOff d i) (oOff_inb d i)
abbrev oP (d : Dev nD) (i : Fin 32) : Memref sig .tc .vmem S64x1024 .bf16 := oC (oOff d i) (oOff_inb d i)

/-- The passes at device `d`. -/
def stage1 (d : Dev nD) (i : Fin 32) : Prog (TpuEff nD τ sig (Elt F) Λ₀ .tc) PUnit := stage1At (X d) i
def stage2 (d : Dev nD) (i : Fin 32) : Prog (TpuEff nD τ sig (Elt F) Λ₀ .tc) PUnit :=
  stage2At (oOff d i) (oOff_inb d i) (oOff_packed d i) (oOff d i) (oOff_inb d i) (oOff_words d i) (Y d) i
def stage3 (d : Dev nD) (i : Fin 32) : Prog (TpuEff nD τ sig (Elt F) Λ₀ .tc) PUnit := stage3At (oOff d i) (oOff_inb d i) (oOff_words d i) i

theorem stage2At_congr {so so' no no' : Fin 2 → ℕ} {hso hp hno hw hso' hp' hno' hw'} {n n' : Dev nD} (h₁ : so = so') (h₂ : no = no') (h₃ : n = n')
    (i : Fin 32) : stage2At (F := F) so hso hp no hno hw n i = stage2At so' hso' hp' no' hno' hw' n' i := by
  subst h₁ h₂ h₃; rfl
theorem stage3At_congr {no no' : Fin 2 → ℕ} {hno hw hno' hw'} (h : no = no') (i : Fin 32) :
    stage3At (F := F) no hno hw i = stage3At no' hno' hw' i := by
  subst h; rfl

theorem tab1_eq (d : Dev nD) : tab1 (F := F) d = stage1 d := funext fun i => congrArg (fun n => stage1At n i) (xTab_eq i d)
theorem tab2_eq (d : Dev nD) : tab2 (F := F) d = stage2 d := funext fun i => stage2At_congr (stTab_eq i d) (snTab_eq i d) (yTab_eq i d) i
theorem tab3_eq (d : Dev nD) : tab3 (F := F) d = stage3 d := funext fun i => stage3At_congr (snTab_eq i d) i

/-- The three loops at device `d`. -/
def loops (d : Dev nD) : Prog (TpuEff nD τ sig (Elt F) Λ₀ .tc) PUnit :=
  loop (stage1 d) chunks (loop (stage2 d) chunks (loop (stage3 d) chunks (pure ⟨⟩)))

/-- The whole body: the barrier, then the three loops. -/
def body : Prog (TpuEff nD τ sig (Elt F) Λ₀ .tc) PUnit := do
  let d : Dev nD ← Prog.lift .deviceId
  semSignalWord (X d) barS 1#32
  semSignalWord (Y d) barS 1#32
  semWaitWord barS 2#32
  loops d

theorem body_eq : (cc0_body xM (Memref.isWhole_whole _) oM (Memref.isWhole_whole _) bM (Memref.isWhole_whole _) rM (Memref.isWhole_whole _)
    cc0_scratch2 cc0_scratch3 cc0_scratch4 cc0_scratch5 : Prog (TpuEff nD τ sig (Elt F) Λ₀ .tc) PUnit) = body := by
  rw [printed_eq_tab]
  unfold bodyTab body loops
  refine congrArg _ (funext fun d => ?_)
  rw [dev1_eq, dev2_eq, tab1_eq, tab2_eq, tab3_eq]

end Cert.AllReduce

end
-- ==== Proof.Protocol.lean ====
/-
What the devices exchange: contents, the schedule of every semaphore, what each device owes, the levels.

The mesh is 2 × 2; `X c` and `Y c` are device `c`'s two neighbours. The kernel runs:

* barrier: `c` signals `X c`, handing it the chunks of `c`'s landing buffer, and `Y c`, handing it the chunks of `c`'s
  result that stand in the half of the columns `Y c` computes; it waits for both neighbours' signals;
* first exchange: `c` copies its block of `x` chunk by chunk and sends each chunk to `X c`'s landing buffer;
* second exchange: as chunk `i` lands, `c` stores the sum of the two blocks' chunks in its own half of the columns of the
  result and sends it to the same place of `Y c`'s result;
* the end: `c` waits until all its copies have left and all of `Y c`'s chunks have arrived.

Each semaphore has one round. The barrier's has two duties of one unit (`false` from `X c`, `true` from `Y c`); every copy
semaphore's has one duty, of one chunk's credit.
-/
module

public import proofs.«01_k».proof.Proof.Chunks
public import Idealize.ShloMosaic.Lib.Pipeline.Launch
public import Idealize.ShloMosaic.Lib.Pipeline.Kit
public import Idealize.ShloMosaic.Lib.Tactic

@[expose] public section

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resources: the launch's own, and this protocol's duties -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The state at launch: any memory, every counter zero, any generator registers. -/
def s₀ : MemSt nD τ sig (Elt F) := ⟨m, fun _ => 0, ρ⟩

/-! ## The semaphores -/

/-- The four families of copy semaphores: first exchange sent, received; second exchange sent, received. -/
abbrev semF (f : Fin 4) (i : Fin 32) : DmaSem sig := match f with
  | 0 => s1 i | 1 => r1 i | 2 => s2 i | 3 => r2 i

abbrev barCell (c : Dev nD) : GSem nD τ sig := ((c : Thread nD τ), .reg barS)
abbrev dmaCell (c : Dev nD) (f : Fin 4) (i : Fin 32) : GSem nD τ sig := ((c : Thread nD τ), .dma (semF f i))

set_option backward.proofsInPublic true in
/-- Which family a copy semaphore belongs to, and which chunk's it is. -/
def famOf (q : DmaSem sig) : Fin 4 := ⟨(q.val - 2) / 32 % 4, Nat.mod_lt _ (by decide)⟩
set_option backward.proofsInPublic true in
def numOf (q : DmaSem sig) : Fin 32 := ⟨(q.val - 2) % 32, Nat.mod_lt _ (by decide)⟩

theorem famOf_semF (f : Fin 4) (i : Fin 32) : famOf (semF f i) = f := by revert f i; decide +kernel
theorem numOf_semF (f : Fin 4) (i : Fin 32) : numOf (semF f i) = i := by revert f i; decide +kernel

/-- The credit of one chunk. -/
abbrev N : ℕ := (rC 0).view.dmaCredit
theorem N_pos : 0 < N := View.dmaCredit_pos _ (by decide)

/-! ## Contents -/

/-- Device `c`'s block of `x` as staged. -/
def xstg (c : Dev nD) : (cc0_stg0_0 : Ref sig .tc).ty.Contents (Elt F) :=
  (win0_0.blk (0 : Fin 1)).view.read (Elt F) ((s₀ m ρ).mem ((c : Thread nD τ).loc main_arg0))

/-- The sum of the two blocks that stand in `c`'s half of the columns: its own and `X c`'s. -/
def sumBlk (c : Dev nD) : S2048x1024.Idx → F .bf16 := addf (xstg m ρ c : Vec F S2048x1024 .bf16) (xstg m ρ (X c))

set_option backward.proofsInPublic true in
/-- The device of `c`'s row whose half of the columns column `k` is in. -/
def colDev (c : Dev nD) (k : ℕ) : Dev nD := ⟨2 * (c.val / 2) + k / 1024 % 2, by
  have h : c.val < 4 := c.isLt
  show _ < 4
  omega⟩

set_option backward.proofsInPublic true in
/-- A place of the result as a place of the block its column falls in. -/
def subIdx (j : S2048x2048.Idx) : S2048x1024.Idx :=
  fun a => ⟨(j a).val % S2048x1024.size a, Nat.mod_lt _ (by fin_cases a <;> decide)⟩

/-- The result on device `c`: in each half of the columns, the sum the device of `c`'s row owning that half computes. -/
def outAt (c : Dev nD) : (cc0_stg1_0 : Ref sig .tc).ty.Contents (Elt F) :=
  fun j => sumBlk m ρ (colDev c (j 1).val) (subIdx j)

theorem colDev_Y (c : Dev nD) (k : ℕ) : colDev (Y c) k = colDev c k := by
  have h : (Y c).val / 2 = c.val / 2 := by revert c; decide
  exact Fin.ext (by simp only [colDev, h])

/-- Both devices of a row compute the same result. -/
theorem outAt_Y (c : Dev nD) : outAt m ρ (Y c) = outAt m ρ c := by
  funext j; unfold outAt; rw [colDev_Y]

/-! ## The chunks as owned -/

/-- Chunk `i` of device `c`'s copy of its block, at a share. -/
def bPts (c : Dev nD) (i : Fin 32) (q : PosShare TreeShare) (f : Buf (Elt F) ((bC i).view.loc (c : Thread nD τ))) : sProp 𝕄 :=
  (bC i).view.loc (c : Thread nD τ) ↦[(bC i).view.set]{q} f
/-- Chunk `i` of device `c`'s landing buffer. -/
def rPts (c : Dev nD) (i : Fin 32) (f : Buf (Elt F) ((rC i).view.loc (c : Thread nD τ))) : sProp 𝕄 :=
  (rC i).view.loc (c : Thread nD τ) ↦[(rC i).view.set]{fullShare} f
/-- Chunk `i` of device `c`'s result, in the half of the columns device `d` computes. -/
def oPts (c d : Dev nD) (i : Fin 32) (f : Buf (Elt F) ((oP d i).view.loc (c : Thread nD τ))) : sProp 𝕄 :=
  (oP d i).view.loc (c : Thread nD τ) ↦[(oP d i).view.set]{fullShare} f

omit [FloatOps F] in
instance bPts_storable (c : Dev nD) (i) (q) (f) : BI.Storable (upEmb : UEmb _ 𝕄) (bPts (F := F) c i q f) := by unfold bPts; infer_instance
omit [FloatOps F] in
instance rPts_storable (c : Dev nD) (i) (f) : BI.Storable (upEmb : UEmb _ 𝕄) (rPts (F := F) c i f) := by unfold rPts; infer_instance
omit [FloatOps F] in
instance oPts_storable (c d : Dev nD) (i) (f) : BI.Storable (upEmb : UEmb _ 𝕄) (oPts (F := F) c d i f) := by unfold oPts; infer_instance

/-! ## The schedule -/

/-- What the signals hand over: `X c`'s landing buffer, `Y c`'s result in `c`'s half of the columns, at any contents. -/
def barX (c : Dev nD) : sProp 𝕄 := bigSep Finset.univ fun i : Fin 32 => iprop(∃ f, rPts (F := F) (X c) i f)
def barY (c : Dev nD) : sProp 𝕄 := bigSep Finset.univ fun i : Fin 32 => iprop(∃ f, oPts (F := F) (Y c) c i f)

/-- What a copy's end hands device `c`, by family: the copied chunk back (the half of it the copy read); the neighbour's
    chunk; the result's own chunk back; the neighbour's chunk of the result. -/
def dmaPay (c : Dev nD) (f : Fin 4) (i : Fin 32) : sProp 𝕄 := match f with
  | 0 => bPts c i fullShare.left (xstg m ρ c)
  | 1 => rPts c i (xstg m ρ (X c))
  | 2 => oPts c c i (outAt m ρ c)
  | 3 => oPts c (Y c) i (outAt m ρ c)

instance dmaPay_storable (c : Dev nD) (f : Fin 4) (i : Fin 32) : BI.Storable (upEmb : UEmb _ 𝕄) (dmaPay m ρ c f i) := by
  unfold dmaPay; split <;> infer_instance

/-- One round, round 0. -/
def sched : Rounds.Schedule (GSem nD τ sig) Bool 𝕄 where
  duties g r := if r = 0 then (match g.2 with | .reg _ => Finset.univ | .dma _ => {false}) else ∅
  unitless _ := False
  amount g _ _ := match g.2 with | .reg _ => 1 | .dma _ => N
  payload g _ d := match g.2 with
    | .reg _ => if d then barY g.1.1 else barX g.1.1
    | .dma q => dmaPay m ρ g.1.1 (famOf q) (numOf q)
  amount_pos g _ _ _ := by
    cases g.2
    · exact Nat.one_pos
    · exact N_pos

instance sched_payload_storable (g : GSem nD τ sig) (r : ℕ) (d : Bool) :
    BI.Storable (upEmb : UEmb _ 𝕄) ((sched (F := F) m ρ).payload g r d) := by
  show BI.Storable upEmb (match g.2 with
    | .reg _ => if d then barY g.1.1 else barX g.1.1
    | .dma q => dmaPay m ρ g.1.1 (famOf q) (numOf q))
  unfold barX barY
  split
  · split <;> infer_instance
  · infer_instance

section Sched
variable (c : Dev nD) (f : Fin 4) (i : Fin 32)

theorem duties_bar : (sched (F := F) m ρ).duties (barCell c) 0 = Finset.univ := rfl
theorem duties_dma : (sched (F := F) m ρ).duties (dmaCell c f i) 0 = {false} := rfl
theorem duties_later (g : GSem nD τ sig) : ∀ r, 1 ≤ r → (sched (F := F) m ρ).duties g r = ∅ :=
  fun r hr => by dsimp only [sched]; rw [if_neg fun h => by omega]
theorem amount_bar (d : Bool) : (sched (F := F) m ρ).amount (barCell c) 0 d = 1 := rfl
theorem amount_dma (d : Bool) : (sched (F := F) m ρ).amount (dmaCell c f i) 0 d = N := rfl

theorem expect_bar : (sched (F := F) m ρ).expect (barCell c) 0 = 2 := by
  unfold Schedule.expect Schedule.amountOf
  rw [duties_bar, Finset.sum_congr rfl fun d _ => amount_bar m ρ c d, Finset.sum_const, Finset.card_univ, Fintype.card_bool, smul_eq_mul]
theorem expect_dma : (sched (F := F) m ρ).expect (dmaCell c f i) 0 = N := by
  unfold Schedule.expect Schedule.amountOf; rw [duties_dma, Finset.sum_singleton, amount_dma]

theorem payload_bar_false : (sched (F := F) m ρ).payload (barCell c) 0 false = barX c := rfl
theorem payload_bar_true : (sched (F := F) m ρ).payload (barCell c) 0 true = barY c := rfl
theorem payload_dma (d : Bool) : (sched (F := F) m ρ).payload (dmaCell c f i) 0 d = dmaPay m ρ c f i := by
  show dmaPay m ρ c (famOf (semF f i)) (numOf (semF f i)) = _
  rw [famOf_semF, numOf_semF]

theorem rest_bar : bigSep ((sched (F := F) m ρ).duties (barCell c) 0 \ ∅) (fun d => (sched (F := F) m ρ).payload (barCell c) 0 d)
    = iprop(barX c ∗ barY c) := by
  rw [Finset.sdiff_empty, duties_bar, bigSep_univ_eq_bigSepL [false, true] (by decide) (by decide), bigSepL_cons_cons, bigSepL_singleton,
    payload_bar_false, payload_bar_true]
  rfl
theorem rest_dma : bigSep ((sched (F := F) m ρ).duties (dmaCell c f i) 0 \ ∅) (fun d => (sched (F := F) m ρ).payload (dmaCell c f i) 0 d)
    = dmaPay m ρ c f i := by
  rw [Finset.sdiff_empty, duties_dma, bigSep_singleton, payload_dma]

end Sched

/-! ## What each device owes; the levels -/

/-- One chunk's credit owed at each of the cells `g i` of a list of chunks. -/
def oweL (g : Fin 32 → GSem nD τ sig) : List (Fin 32) → CellTallies nD τ sig Unit
  | [] => 0
  | i :: l => oweL g l + tallyAt (g i) () N

theorem oweL_pos {g : Fin 32 → GSem nD τ sig} {γ : GSem nD τ sig} {u : Unit} :
    ∀ {l : List (Fin 32)}, 0 < oweL g l γ u → ∃ i, γ = g i
  | [], h => absurd h (Nat.lt_irrefl 0)
  | i :: l, h => by
    by_cases hg : γ = g i
    · exact ⟨i, hg⟩
    · refine oweL_pos (u := u) (l := l) ?_
      unfold oweL at h
      rwa [Pi.add_apply, Finsupp.add_apply, tallyAt_apply, if_neg (fun h' => hg h'.1), Nat.add_zero] at h

/-- What is owed at a cell: the credit if it is one of the list's (each chunk is listed once), else nothing. -/
theorem oweL_apply (g : Fin 32 → GSem nD τ sig) (hg : Function.Injective g) (i : Fin 32) :
    ∀ {l : List (Fin 32)}, l.Nodup → oweL g l (g i) () = if i ∈ l then N else 0
  | [], _ => rfl
  | k :: l, h => by
    unfold oweL
    rw [Pi.add_apply, Finsupp.add_apply, tallyAt_apply, oweL_apply g hg i (List.nodup_cons.mp h).2]
    by_cases hk : i = k
    · subst hk
      rw [if_neg (List.nodup_cons.mp h).1, if_pos ⟨rfl, rfl⟩, if_pos List.mem_cons_self, Nat.zero_add]
    · rw [if_neg (c := g i = g k ∧ () = ()) (fun h' => hk (hg h'.1)), Nat.add_zero]
      by_cases hl : i ∈ l
      · rw [if_pos hl, if_pos (List.mem_cons_of_mem _ hl)]
      · rw [if_neg hl, if_neg (fun h' => (List.mem_cons.mp h').elim hk hl)]

theorem oweL_not {g : Fin 32 → GSem nD τ sig} {γ : GSem nD τ sig} (h : ∀ i, γ ≠ g i) (l : List (Fin 32)) : oweL g l γ () = 0 :=
  Nat.eq_zero_of_not_pos fun hp => (oweL_pos hp).elim h

/-- The credit device `c` owes for its copies: `Y c`'s second exchange, `X c`'s first. -/
def Ocopy (c : Dev nD) : CellTallies nD τ sig Unit := oweL (dmaCell (Y c) 3) chunks + oweL (dmaCell (X c) 1) chunks
/-- At launch it owes both neighbours' barrier a unit besides. -/
def O₁ (c : Dev nD) : CellTallies nD τ sig Unit := Ocopy c + tallyAt (barCell (Y c)) () 1
def O₀ (c : Dev nD) : CellTallies nD τ sig Unit := O₁ c + tallyAt (barCell (X c)) () 1

def L (g : GSem nD τ sig) : Finset Unit := if g.1.2 = .tc then {()} else ∅
/-- The levels of the four families of copy semaphores. -/
def lvF (f : Fin 4) : ℕ := match f with | 1 => 2 | 3 => 3 | _ => 0
/-- The barrier at 1, the first exchange's receives at 2, the second's at 3, everything else at 0. -/
def lv (g : GSem nD τ sig) (_ : Unit) : ℕ := match g.2 with
  | .reg _ => 1
  | .dma q => lvF (famOf q)

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := rfl
theorem lv_r1 (c : Dev nD) (i : Fin 32) : lv (dmaCell c 1 i) () = 2 := by
  show lvF (famOf (semF 1 i)) = 2; rw [famOf_semF]; rfl
theorem lv_r2 (c : Dev nD) (i : Fin 32) : lv (dmaCell c 3 i) () = 3 := by
  show lvF (famOf (semF 3 i)) = 3; rw [famOf_semF]; rfl

theorem Ocopy_pos {c : Dev nD} {g : GSem nD τ sig} {u : Unit} (h : 0 < Ocopy c g u) :
    (∃ i, g = dmaCell (Y c) 3 i) ∨ ∃ i, g = dmaCell (X c) 1 i := by
  unfold Ocopy at h
  rw [Pi.add_apply, Finsupp.add_apply] at h
  rcases Nat.eq_zero_or_pos (oweL (dmaCell (Y c) 3) chunks g u) with h0 | h0
  · rw [h0, Nat.zero_add] at h; exact Or.inr (oweL_pos h)
  · exact Or.inl (oweL_pos h0)

theorem O₀_pos {c : Dev nD} {g : GSem nD τ sig} {u : Unit} (h : 0 < O₀ c g u) :
    ((∃ i, g = dmaCell (Y c) 3 i) ∨ ∃ i, g = dmaCell (X c) 1 i) ∨ g = barCell (Y c) ∨ g = barCell (X c) := by
  unfold O₀ O₁ at h
  rw [Pi.add_apply, Finsupp.add_apply, Pi.add_apply, Finsupp.add_apply, tallyAt_apply, tallyAt_apply] at h
  by_contra hn
  rw [not_or, not_or (q := _ = barCell (X c))] at hn
  rw [if_neg (fun h' => hn.2.1 h'.1), if_neg (fun h' => hn.2.2 h'.1), Nat.add_zero] at h
  exact hn.1 (Ocopy_pos h)

omit [FloatOps F] in
/-- A device may wait at a semaphore while everything it owes is at cells of a higher level. -/
theorem mayWait_of (c : Dev nD) (sm : SemLoc sig) (O : CellTallies nD τ sig Unit)
    (h : ∀ g u, 0 < O g u → g.1.2 = .tc ∧ lv ((c : Thread nD τ), sm) () < lv g ()) :
    (levAts L lv : sProp 𝕄) ⊢ MayWait (c : Thread nD τ) sm () O :=
  MayOwe.of_cut (L := L) (lev := lv) (lv ((c : Thread nD τ), sm) ())
    (fun p hp => by rw [Finset.mem_singleton.mp hp, L_tc]; exact Finset.mem_singleton_self _)
    (fun g u hg => by unfold L; rw [if_pos (h g u hg).1]; exact Finset.mem_singleton_self _)
    (fun p hp => by rw [Finset.mem_singleton.mp hp])
    (fun g u hg => (h g u hg).2)

omit [FloatOps F] in
/-- At the barrier a device owes its copies only. -/
theorem mayWait_bar (c : Dev nD) : (levAts L lv : sProp 𝕄) ⊢ MayWait (c : Thread nD τ) (.reg barS) () (Ocopy c) :=
  mayWait_of c _ _ fun g u hg => by
    rcases Ocopy_pos hg with ⟨i, rfl⟩ | ⟨i, rfl⟩
    · refine ⟨rfl, ?_⟩; rw [lv_r2]; exact (by decide : (1 : ℕ) < 3)
    · refine ⟨rfl, ?_⟩; rw [lv_r1]; exact (by decide : (1 : ℕ) < 2)

omit [FloatOps F] in
/-- At a receive of the first exchange it owes sends of the second only. -/
theorem mayWait_r1 (c : Dev nD) (i : Fin 32) (l : List (Fin 32)) :
    (levAts L lv : sProp 𝕄) ⊢ MayWait (c : Thread nD τ) (.dma (r1 i)) () (oweL (dmaCell (Y c) 3) l) :=
  mayWait_of c _ _ fun g u hg => by
    obtain ⟨k, rfl⟩ := oweL_pos hg
    refine ⟨rfl, ?_⟩; rw [lv_r2]; show lv (dmaCell c 1 i) () < 3; rw [lv_r1]; decide

omit [FloatOps F] in
/-- At a semaphore of level 0 it may owe everything it owes at launch, or nothing. -/
theorem mayWait_zero (c : Dev nD) (sm : SemLoc sig) (hs : lv ((c : Thread nD τ), sm) () = 0) (O : CellTallies nD τ sig Unit) (hO : O = O₀ c ∨ O = 0) :
    (levAts L lv : sProp 𝕄) ⊢ MayWait (c : Thread nD τ) sm () O := by
  rcases hO with rfl | rfl
  · refine mayWait_of c _ _ fun g u hg => ?_
    rw [hs]
    rcases O₀_pos hg with (⟨i, rfl⟩ | ⟨i, rfl⟩) | rfl | rfl
    · exact ⟨rfl, by rw [lv_r2]; decide⟩
    · exact ⟨rfl, by rw [lv_r1]; decide⟩
    · exact ⟨rfl, by rw [lv_bar]; decide⟩
    · exact ⟨rfl, by rw [lv_bar]; decide⟩
  · rw [MayWait_zero]; iintro -; iempintro

end Cert.AllReduce

end
-- ==== Proof.Moves.lean ====
/-
What the loads, the stores and the transfers of one chunk leave: chunk `i` of the copy holds chunk `i` of the block, chunk
`i` of the landing buffer the neighbour's, chunk `i` of the result the sum.
-/
module

public import proofs.«01_k».proof.Proof.Protocol
public import Idealize.ShloMosaic.Lib.Pipeline.Value

@[expose] public section

noncomputable section

namespace Cert.AllReduce

open Cert.KernelIdeal Cert.KernelIdeal.Gen
open Idealize.ShloMosaic Idealize.ShloMosaic.TcCoe
open Idealize.SL Idealize.SL.RA Idealize.SL.BI

variable {F : FTy → Type} [FloatOps F]
variable (m : (ℓ : Loc nD τ sig) → Buf (Elt F) ℓ) (ρ : Dev nD → PrngReg)

omit [FloatOps F] in
/-- Written through a view with what the view reads in `g`, a buffer holds `g` under the view. -/
theorem write_eq_on {κ : Kind} {sp : Space} {s : Shape} {e : EltTy} (v : View sig κ sp s e) (f g : v.ty.Contents (Elt F)) (w : s.Idx → Elt F e)
    (h : ∀ x, w x = v.read (Elt F) g x) : ∀ j ∈ v.set, v.write (Elt F) f w Finset.univ j = g j := by
  intro j hj
  obtain ⟨x, -, rfl⟩ := Finset.mem_map.mp hj
  rw [View.write_emb_of_mem f w (Finset.mem_univ x), h x, View.read_apply, cast_cast, cast_eq]

/-! ## The first exchange -/

/-- The chunk stored in the copy. -/
theorem copied_eq (i : Fin 32) (f g : (cc0_scratch0 : Ref sig .tc).ty.Contents (Elt F)) (x : (cc0_stg0_0 : Ref sig .tc).ty.Contents (Elt F)) (hg : x = g) :
    ∀ j ∈ (bC i).view.set, (bM.access (rows i) : View sig .tc _ _ _).write (Elt F) f (k0_pay1 (xM.view.readAt (Elt F) (rows i).toLoadRect x)) Finset.univ j = g j :=
  write_eq_on (bM.access (rows i) : View sig .tc _ _ _) f g _ fun k => by
    subst hg
    show k0_pay1 (xM.view.readAt (Elt F) (rows i).toLoadRect x) k = _
    unfold k0_pay1
    rw [shapeCast_self, shapeCast_self]
    rfl

/-- The chunk sent into the landing buffer. -/
theorem landed_eq (i : Fin 32) (f g : (cc0_scratch1 : Ref sig .tc).ty.Contents (Elt F)) (x : (cc0_scratch0 : Ref sig .tc).ty.Contents (Elt F)) (hg : x = g) :
    ∀ j ∈ (rC i).view.set, (rC i).view.write (Elt F) f ((bC i).view.read (Elt F) x) Finset.univ j = g j :=
  write_eq_on (rC i).view f g _ fun k => by subst hg; rfl

/-! ## The second exchange -/

omit [FloatOps F] in
/-- A place of device `c`'s own chunk `i` of the result: its column is in `c`'s half, and it is the place of chunk `i` of
    the block. -/
theorem own_col (c : Dev nD) (i : Fin 32) (x : S64x1024.Idx) : colDev c ((oR c i).emb x 1).val = c := by
  have hx : (x 1).val < 1024 := (x 1).isLt
  have h : ((oR c i).emb x 1).val = 1024 * (c.val % 2) + 1 * (x 1).val := rfl
  refine Fin.ext ?_
  show 2 * (c.val / 2) + ((oR c i).emb x 1).val / 1024 % 2 = c.val
  rw [h]; omega
omit [FloatOps F] in
theorem own_sub (c : Dev nD) (i : Fin 32) (x : S64x1024.Idx) : subIdx ((oR c i).emb x) = (rows i).emb x := by
  have h0 : ((oR c i).emb x 0).val = 64 * i.val + 1 * (x 0).val := rfl
  have h1 : ((oR c i).emb x 1).val = 1024 * (c.val % 2) + 1 * (x 1).val := rfl
  have hx0 : (x 0).val < 64 := (x 0).isLt
  have hx1 : (x 1).val < 1024 := (x 1).isLt
  have hi : i.val < 32 := i.isLt
  funext a
  fin_cases a
  · refine Fin.ext ?_
    show ((oR c i).emb x 0).val % 2048 = 64 * i.val + 1 * (x 0).val
    rw [h0]; omega
  · refine Fin.ext ?_
    show ((oR c i).emb x 1).val % 1024 = 0 + 1 * (x 1).val
    rw [h1]; omega

/-- The sum stored in the result. -/
theorem summed_eq (c : Dev nD) (i : Fin 32) (f : (cc0_stg1_0 : Ref sig .tc).ty.Contents (Elt F)) :
    ∀ j ∈ (oP c i).view.set, (oM.access (oR c i) : View sig .tc _ _ _).write (Elt F) f
      (k0_pay35 (bM.view.readAt (Elt F) (rows i).toLoadRect (xstg m ρ c)) (rM.view.readAt (Elt F) (rows i).toLoadRect (xstg m ρ (X c)))) Finset.univ j
        = outAt m ρ c j :=
  write_eq_on (oM.access (oR c i) : View sig .tc _ _ _) f _ _ fun k => by
    show sumBlk m ρ c ((rows i).emb k) = outAt m ρ c ((oR c i).emb k)
    unfold outAt
    rw [own_col, own_sub]

/-- The sum sent into the neighbour's result. -/
theorem shared_eq (d : Dev nD) (i : Fin 32) (f g x : (cc0_stg1_0 : Ref sig .tc).ty.Contents (Elt F)) (hg : x = g) :
    ∀ j ∈ (oP d i).view.set, (oP d i).view.write (Elt F) f ((oP d i).view.read (Elt F) x) Finset.univ j = g j :=
  write_eq_on (oP d i).view f g _ fun k => by subst hg; rfl

end Cert.AllReduce

end
-- ==== Proof.Steps.lean ====
/-
One pass of each loop, and the loop rule.

A pass of chunk `i` takes what it needs of chunk `i` (`pre`), leaves what it makes of it (`post`), and carries a state
that depends on the chunks still to come: what the device owes.
-/
module

public import proofs.«01_k».proof.Proof.Moves
public import Idealize.ShloMosaic.Lib.Pipeline.BigSepL

@[expose] public section

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

variable (m : (ℓ : Loc nD τ sig) → Buf (Elt F) ℓ) (ρ : Dev nD → PrngReg)

/-! ## Every cell's invariant -/

/-- The cells of a device: the barrier's, and the four families'. -/
abbrev CK : Type := Unit ⊕ (Fin 4 × Fin 32)
abbrev csem : CK → SemLoc sig
  | .inl _ => .reg barS
  | .inr fi => .dma (semF fi.1 fi.2)
abbrev kcell (ck : Dev nD × CK) : GSem nD τ sig := ((ck.1 : Thread nD τ), csem ck.2)

/-- Every cell's invariant, under the names `K`, and that every cell is at round 0. -/
def records (K : Dev nD × CK → ℕ) : sProp 𝕄 :=
  iprop((bigSep Finset.univ fun ck : Dev nD × CK => cellInv ER (sched m ρ) (K ck) (kcell ck))
    ∗ bigSep Finset.univ fun ck : Dev nD × CK => reached ER (kcell ck) 0)

instance records_persistent (K : Dev nD × CK → ℕ) : BI.Persistent (records m ρ K) := by unfold records; infer_instance

theorem inv_at (K : Dev nD × CK → ℕ) (ck : Dev nD × CK) : records m ρ K ⊢ cellInv ER (sched m ρ) (K ck) (kcell ck) := by
  unfold records
  iintro ⟨#H, -⟩
  iapply (show (bigSep Finset.univ fun ck : Dev nD × CK => (cellInv ER (sched m ρ) (K ck) (kcell ck) : sProp 𝕄)) ⊢ cellInv ER (sched m ρ) (K ck) (kcell ck) from
    bigSep_elim (Finset.mem_univ ck))
  iexact H
theorem reached_at (K : Dev nD × CK → ℕ) (ck : Dev nD × CK) : records m ρ K ⊢ reached ER (kcell ck) 0 := by
  unfold records
  iintro ⟨-, #H⟩
  iapply (show (bigSep Finset.univ fun ck : Dev nD × CK => (reached ER (kcell ck) 0 : sProp 𝕄)) ⊢ reached ER (kcell ck) 0 from
    bigSep_elim (Finset.mem_univ ck))
  iexact H
theorem inv_bar (K : Dev nD × CK → ℕ) (c : Dev nD) : records m ρ K ⊢ cellInv ER (sched m ρ) (K (c, .inl ())) (barCell c) :=
  inv_at m ρ K (c, .inl ())
theorem inv_dma (K : Dev nD × CK → ℕ) (c : Dev nD) (f : Fin 4) (i : Fin 32) :
    records m ρ K ⊢ cellInv ER (sched m ρ) (K (c, .inr (f, i))) (dmaCell c f i) := inv_at m ρ K (c, .inr (f, i))
theorem reached_bar (K : Dev nD × CK → ℕ) (c : Dev nD) : records m ρ K ⊢ reached ER (barCell c) 0 := reached_at m ρ K (c, .inl ())
theorem reached_dma (K : Dev nD × CK → ℕ) (c : Dev nD) (f : Fin 4) (i : Fin 32) : records m ρ K ⊢ reached ER (dmaCell c f i) 0 :=
  reached_at m ρ K (c, .inr (f, i))

/-! ## The loop rule -/

theorem wp_loop (c : Dev nD) (f : Fin 32 → Prog (TpuEff nD τ sig (Elt F) Λ₀ .tc) PUnit) (Pre Post : Fin 32 → sProp 𝕄) (S : List (Fin 32) → sProp 𝕄)
    (Q : PUnit → sProp 𝕄)
    (step : ∀ i l k, iprop(Pre i ∗ S (i :: l)) ⊢ iprop(((Post i ∗ S l)
        -∗ wp frame (wpE (defs₀ (F := F)) 𝒱₀ (c : Thread nD τ) none) Set.univ k Q)
      -∗ wp frame (wpE (defs₀ (F := F)) 𝒱₀ (c : Thread nD τ) none) Set.univ (f i >>= fun _ => k) Q))
    (k : Prog (TpuEff nD τ sig (Elt F) Λ₀ .tc) PUnit) :
    ∀ l, iprop(bigSepL l Pre ∗ S l) ⊢ iprop(((bigSepL l Post ∗ S [])
        -∗ wp frame (wpE (defs₀ (F := F)) 𝒱₀ (c : Thread nD τ) none) Set.univ k Q)
      -∗ wp frame (wpE (defs₀ (F := F)) 𝒱₀ (c : Thread nD τ) none) Set.univ (loop f l k) Q)
  | [] => by
    iintro ⟨-, HS⟩ Hk
    unfold loop
    iapply Hk
    isplitr
    · rw [bigSepL_nil]; iempintro
    iexact HS
  | i :: l => by
    rw [bigSepL_cons', bigSepL_cons']
    iintro ⟨⟨Hi, Hl⟩, HS⟩ Hk
    unfold loop
    iapply (step i l (loop f l k)) $$ [Hi HS]
    · isplitl [Hi] <;> iassumption
    iintro ⟨Hp, HS⟩
    iapply (wp_loop c f Pre Post S Q step k l) $$ [Hl HS]
    · isplitl [Hl] <;> iassumption
    iintro ⟨Hl, HS⟩
    iapply Hk
    isplitr [HS]
    · isplitl [Hp] <;> iassumption
    iexact HS

/-! ## A wait at a copy semaphore -/

/-- The wait for one chunk's credit: what the copy hands over comes, the semaphore is back at zero. -/
theorem wp_arrived (K : Dev nD × CK → ℕ) (c : Dev nD) (f : Fin 4) (i : Fin 32) (src dst : Memref sig .tc .vmem S64x1024 .bf16)
    (hN : dst.view.dmaCredit = N) {hsrc : src.view.WordExact} {hdst : dst.view.WordExact}
    {O : CellTallies nD τ sig Unit} {W : Waits sig Unit} {k : PUnit → Prog (TpuEff nD τ sig (Elt F) Λ₀ .tc) PUnit} {Q : PUnit → sProp 𝕄} :
    iprop(records m ρ K ∗ cred (tallyAt (dmaCell c f i) () N) ∗ owes (c : Thread nD τ) O W ∗ MayWait (c : Thread nD τ) (.dma (semF f i)) () O
        ∗ atPos ER (dmaCell c f i) 0 ∅ 0)
      ⊢ iprop(((owes (c : Thread nD τ) O (insert (SemLoc.dma (semF f i), ()) W) ∗ semVal (dmaCell c f i) 0 ∗ dmaPay m ρ c f i)
          -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 (semF f i) src dst hsrc hdst) k) Q) := by
  have hw : ∀ P : PUnit → sProp 𝕄, wpE (defs₀ (F := F)) 𝒱₀ (c : Thread nD τ) none Set.univ (.waitDma2 (semF f i) src dst hsrc hdst) P
      = waitSpec (c : Thread nD τ) Set.univ (.dma (semF f i)) N P := fun P => by rw [← hN]; rfl
  iintro ⟨#HR, Hc, HO, Hm, Hat⟩ Hk
  iapply (Rounds.wp_wait_rest_token 𝒱₀ ER (sched m ρ) (c : Thread nD τ) none (κ := K (c, .inr (f, i))) hw (Set.mem_univ _) ()
    (O := O) (W := W) (R := 0) (m := 0) (T := ∅) (by rw [Nat.zero_add, expect_dma])) $$ [Hc HO Hm Hat]
  · isplitr; · iapply (inv_dma m ρ K c f i); iexact HR
    isplitl [Hc]; · iexact Hc
    isplitl [HO]; · iexact HO
    isplitl [Hm]; · iexact Hm
    iexact Hat
  iintro ⟨HO, Hat, -, Hpay⟩
  ihave Hp := (Entails.of_eq (rest_dma m ρ c f i)) $$ Hpay
  imod (Rounds.cell_close ER (sched m ρ) (Set.mem_univ (K (c, .inr (f, i)))) (fun h => h) (R := 0 + 1) (duties_later m ρ (dmaCell c f i))) $$ [Hat] with Hz
  · isplitr; · iapply (inv_dma m ρ K c f i); iexact HR
    iexact Hat
  iapply Hk
  isplitl [HO]; · iexact HO
  isplitl [Hz] <;> iassumption

/-! ## A transfer -/

/-- One chunk sent to device `n`: the source's elements and the target's go into the copy, which owes them, as the
    payloads say, at its two semaphores; the device is left the credit for its own, and owes `n`'s no more. -/
theorem wp_sent (K : Dev nD × CK → ℕ) (c n : Dev nD) (f f' : Fin 4) (i : Fin 32) {src dst : Memref sig .tc .vmem S64x1024 .bf16}
    {hsc : (dst : Memref sig (Dev.tc n : Thread nD τ).2.kind .vmem S64x1024 .bf16).view.ref.isScScratch = false}
    {hsrc : src.view.WordExact} {hdst : dst.view.WordExact}
    {hsem : DmaTarget.Typed .vmem (.dma (semF f' i)) (.remote (Dev.tc n : Thread nD τ) (dst : Memref sig (Dev.tc n : Thread nD τ).2.kind .vmem S64x1024 .bf16) (.dma (semF f i)) hsc)}
    {q : PosShare TreeShare} {fs : Buf (Elt F) (src.view.loc (c : Thread nD τ))} {fd : Buf (Elt F) (dst.view.loc (Dev.tc n : Thread nD τ))}
    (hN : dst.view.dmaCredit = N)
    (hpay₁ : (src.view.loc (c : Thread nD τ) ↦[src.view.set]{q} fs) ⊢ dmaPay m ρ c f i)
    (hpay₂ : (dst.view.loc (Dev.tc n : Thread nD τ) ↦[dst.view.set]{fullShare} (dst.view.write (Elt F) fd (src.view.read (Elt F) fs) Finset.univ))
      ⊢ dmaPay m ρ n f' i)
    {O : CellTallies nD τ sig Unit} {W : Waits sig Unit} {k : PUnit → Prog (TpuEff nD τ sig (Elt F) Λ₀ .tc) PUnit} {Q : PUnit → sProp 𝕄} :
    iprop(records m ρ K ∗ (src.view.loc (c : Thread nD τ) ↦[src.view.set]{q} fs) ∗ (dst.view.loc (Dev.tc n : Thread nD τ) ↦[dst.view.set]{fullShare} fd)
        ∗ owes (c : Thread nD τ) (O + tallyAt (dmaCell n f' i) () N) W
        ∗ dutyTok ER (dmaCell c f i) 0 false ∗ dutyTok ER (dmaCell n f' i) 0 false)
      ⊢ iprop(((cred (tallyAt (dmaCell c f i) () N) ∗ owes (c : Thread nD τ) O W)
          -∗ wp frame (wpE (defs₀ (F := F)) 𝒱₀ (c : Thread nD τ) none) Set.univ (k ⟨⟩) Q)
        -∗ wp frame (wpE (defs₀ (F := F)) 𝒱₀ (c : Thread nD τ) none) Set.univ
          (.op (.enqueueDma src (.remote (Dev.tc n : Thread nD τ) dst (.dma (semF f i)) hsc) (.dma (semF f' i)) hsrc hdst hsem) k) Q) := by
  iintro ⟨#HR, Hs, Hd, HO, Ht, Ht'⟩
  iapply (Rounds.wp_send_pointsTo 𝒱₀ ER (sched m ρ) (c : Thread nD τ) none (sem := .dma (semF f' i)) (sS := .dma (semF f i)) (κ₁ := K (c, .inr (f, i))) (κ₂ := K (n, .inr (f', i)))
    (r₁ := 0) (r₂ := 0) (d₁ := false) (d₂ := false) (fd := fd)
    (by rw [duties_dma m ρ c f i]; exact Finset.mem_singleton_self _) (by rw [duties_dma m ρ n f' i]; exact Finset.mem_singleton_self _)
    () () N hN (amount_dma m ρ c f i false) (amount_dma m ρ n f' i false) O rfl (W := W)
    (by rw [payload_dma m ρ c f i]; exact hpay₁) (by rw [payload_dma m ρ n f' i]; exact hpay₂))
  isplitr; · iapply (inv_dma m ρ K c f i); iexact HR
  isplitr; · iapply (inv_dma m ρ K n f' i); iexact HR
  isplitl [Hs]; · iexact Hs
  isplitl [Hd]; · iexact Hd
  isplitl [HO]; · iexact HO
  isplitl [Ht]; · iexact Ht
  isplitr; · iapply (reached_dma m ρ K c f i); iexact HR
  isplitl [Ht']; · iexact Ht'
  iapply (reached_dma m ρ K n f' i); iexact HR

/-! ## The first loop -/

/-- Device `c`'s block as staged. -/
def xPts (c : Dev nD) : sProp 𝕄 := ((c : Thread nD τ).loc cc0_stg0_0) ↦{fullShare} xstg m ρ c

theorem credit_bC (i : Fin 32) : (bC i).view.dmaCredit = N := rfl
theorem credit_rC (i : Fin 32) : (rC i).view.dmaCredit = N := rfl
theorem credit_oP (d : Dev nD) (i : Fin 32) : (oP d i).view.dmaCredit = N := rfl

/-- What lands on `X c` is what its receive semaphore hands it. -/
theorem landed_pay (c : Dev nD) (i : Fin 32) (g : Buf (Elt F) ((rC i).view.loc (X c : Thread nD τ))) :
    ((rC i).view.loc (X c : Thread nD τ) ↦[(rC i).view.set]{fullShare} ((rC i).view.write (Elt F) g ((bC i).view.read (Elt F) (xstg m ρ c)) Finset.univ))
      ⊢ dmaPay m ρ (X c) 1 i := by
  show _ ⊢ rPts (X c) i (xstg m ρ (X (X c)))
  rw [X_X]; unfold rPts
  exact Entails.of_eq (pointsTo_congr (landed_eq i g _ _ rfl))

def pre1 (c : Dev nD) (i : Fin 32) : sProp 𝕄 :=
  iprop(dutyTok ER (dmaCell c 0 i) 0 false ∗ dutyTok ER (dmaCell (X c) 1 i) 0 false ∗ (∃ f, bPts c i fullShare f) ∗ ∃ f, rPts (F := F) (X c) i f)
def post1 (c : Dev nD) (i : Fin 32) : sProp 𝕄 :=
  iprop(cred (tallyAt (dmaCell c 0 i) () N) ∗ bPts c i fullShare.right (xstg m ρ c))
def st1 (K : Dev nD × CK → ℕ) (c : Dev nD) (l : List (Fin 32)) : sProp 𝕄 :=
  iprop(records m ρ K ∗ xPts m ρ c ∗ ∃ W, owes (c : Thread nD τ) (oweL (dmaCell (Y c) 3) chunks + oweL (dmaCell (X c) 1) l) W)

theorem wp_stage1 (K : Dev nD × CK → ℕ) (c : Dev nD) (Q : PUnit → sProp 𝕄) (i : Fin 32) (l : List (Fin 32))
    (k : Prog (TpuEff nD τ sig (Elt F) Λ₀ .tc) PUnit) :
    iprop(pre1 c i ∗ st1 m ρ K c (i :: l)) ⊢ iprop(((post1 m ρ c i ∗ st1 m ρ K c l)
        -∗ wp frame (wpE (defs₀ (F := F)) 𝒱₀ (c : Thread nD τ) none) Set.univ k Q)
      -∗ wp frame (wpE (defs₀ (F := F)) 𝒱₀ (c : Thread nD τ) none) Set.univ (stage1 c i >>= fun _ => k) Q) := by
  unfold stage1 stage1At pre1 post1 st1 xPts
  simp only [Prog.lift, Prog.bind_op, Prog.bind_ret, Prog.pure_eq_ret]
  iintro ⟨⟨Ht0, Ht1, ⟨%f0, Hb⟩, ⟨%g0, Hr⟩⟩, #HR, Hx, ⟨%W, HO⟩⟩ Hk
  unfold bPts rPts
  iapply (wp_load 𝒱₀ (c : Thread nD τ) none Set.univ (m := xM) (Finset.subset_univ _)) $$ Hx; iintro Hx
  iapply (wp_load_rect 𝒱₀ (c : Thread nD τ) none Set.univ (m := bM) (r := rows i) (S := (bC i).view.set) (Finset.Subset.refl _)) $$ Hb; iintro Hb
  iapply (wp_store 𝒱₀ (c : Thread nD τ) none Set.univ (m := bM) (r := rows i) (Mk := Finset.univ) (S := (bC i).view.set) (Finset.Subset.refl _)) $$ Hb; iintro Hb
  ihave Hb := (Entails.of_eq (pointsTo_congr (copied_eq i f0 (xstg m ρ c) (xstg m ρ c) rfl))) $$ Hb
  ihave Hb := (pointsTo_share (PosShare.mem_left_op_right fullShare)).1 $$ Hb
  icases Hb with ⟨HbL, HbR⟩
  iapply (wp_sent m ρ K c (X c) 0 1 i (src := bC i) (dst := rC i) (fd := g0) (O := oweL (dmaCell (Y c) 3) chunks + oweL (dmaCell (X c) 1) l)
    (credit_rC i) (Entails.refl _) (landed_pay m ρ c i g0)) $$ [HbL Hr HO Ht0 Ht1]
  · isplitr; · iexact HR
    isplitl [HbL]; · iexact HbL
    isplitl [Hr]; · iexact Hr
    isplitl [HO]; · rw [add_assoc]; iexact HO
    isplitl [Ht0] <;> iassumption
  iintro ⟨Hc, HO⟩
  iapply Hk
  isplitl [Hc HbR]
  · isplitl [Hc] <;> iassumption
  isplitr; · iexact HR
  isplitl [Hx]; · iexact Hx
  iexists W; iexact HO

end Cert.AllReduce

end
-- ==== Proof.Passes.lean ====
/-
One pass of the second loop and one of the third.
-/
module

public import proofs.«01_k».proof.Proof.Steps

@[expose] public section

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The second loop -/

/-- What lands in `Y c`'s result is what its receive semaphore hands it. -/
theorem shared_pay (c : Dev nD) (i : Fin 32) (g : Buf (Elt F) ((oP c i).view.loc (Y c : Thread nD τ))) :
    ((oP c i).view.loc (Y c : Thread nD τ) ↦[(oP c i).view.set]{fullShare} ((oP c i).view.write (Elt F) g ((oP c i).view.read (Elt F) (outAt m ρ c)) Finset.univ))
      ⊢ dmaPay m ρ (Y c) 3 i := by
  show _ ⊢ oPts (Y c) (Y (Y c)) i (outAt m ρ (Y c))
  rw [Y_Y, outAt_Y]; unfold oPts
  exact Entails.of_eq (pointsTo_congr (shared_eq c i g _ _ rfl))

def pre2 (c : Dev nD) (i : Fin 32) : sProp 𝕄 :=
  iprop(atPos ER (dmaCell c 1 i) 0 ∅ 0 ∗ cred (tallyAt (dmaCell c 1 i) () N) ∗ dutyTok ER (dmaCell c 2 i) 0 false ∗ dutyTok ER (dmaCell (Y c) 3 i) 0 false
    ∗ bPts c i fullShare.right (xstg m ρ c) ∗ (∃ f, oPts (F := F) c c i f) ∗ ∃ f, oPts (F := F) (Y c) c i f)
def post2 (c : Dev nD) (i : Fin 32) : sProp 𝕄 :=
  iprop(semVal (dmaCell c 1 i) 0 ∗ bPts c i fullShare.right (xstg m ρ c) ∗ rPts c i (xstg m ρ (X c)) ∗ cred (tallyAt (dmaCell c 2 i) () N))
def st2 (K : Dev nD × CK → ℕ) (c : Dev nD) (l : List (Fin 32)) : sProp 𝕄 :=
  iprop(records m ρ K ∗ levAts L lv ∗ ∃ W, owes (c : Thread nD τ) (oweL (dmaCell (Y c) 3) l) W)

theorem wp_stage2 (K : Dev nD × CK → ℕ) (c : Dev nD) (Q : PUnit → sProp 𝕄) (i : Fin 32) (l : List (Fin 32))
    (k : Prog (TpuEff nD τ sig (Elt F) Λ₀ .tc) PUnit) :
    iprop(pre2 m ρ c i ∗ st2 m ρ K c (i :: l)) ⊢ iprop(((post2 m ρ c i ∗ st2 m ρ K c l)
        -∗ wp frame (wpE (defs₀ (F := F)) 𝒱₀ (c : Thread nD τ) none) Set.univ k Q)
      -∗ wp frame (wpE (defs₀ (F := F)) 𝒱₀ (c : Thread nD τ) none) Set.univ (stage2 c i >>= fun _ => k) Q) := by
  unfold stage2 stage2At pre2 post2 st2
  simp only [Prog.lift, Prog.bind_op, Prog.bind_ret, Prog.pure_eq_ret]
  iintro ⟨⟨Hat, Hc, Ht2, Ht3, Hb, ⟨%f0, Ho⟩, ⟨%g0, Hn⟩⟩, #HR, #Hlev, ⟨%W, HO⟩⟩ Hk
  iapply (wp_arrived m ρ K c 1 i (bC i) (rC i) (credit_rC i)) $$ [Hat Hc HO]
  · isplitr; · iexact HR
    isplitl [Hc]; · iexact Hc
    isplitl [HO]; · iexact HO
    isplitr; · iapply (mayWait_r1 c i (i :: l)); iexact Hlev
    iexact Hat
  iintro ⟨HO, Hz, Hr⟩
  ihave Hr := (show dmaPay m ρ c 1 i ⊢ rPts c i (xstg m ρ (X c)) from Entails.refl _) $$ Hr
  unfold bPts rPts oPts
  iapply (wp_load_rect 𝒱₀ (c : Thread nD τ) none Set.univ (m := bM) (r := rows i) (S := (bC i).view.set) (Finset.Subset.refl _)) $$ Hb; iintro Hb
  iapply (wp_load_rect 𝒱₀ (c : Thread nD τ) none Set.univ (m := rM) (r := rows i) (S := (rC i).view.set) (Finset.Subset.refl _)) $$ Hr; iintro Hr
  iapply (wp_load_rect 𝒱₀ (c : Thread nD τ) none Set.univ (m := oM) (r := oR c i) (S := (oP c i).view.set) (Finset.Subset.refl _)) $$ Ho; iintro Ho
  iapply (wp_store 𝒱₀ (c : Thread nD τ) none Set.univ (m := oM) (r := oR c i) (Mk := Finset.univ) (S := (oP c i).view.set) (Finset.Subset.refl _)) $$ Ho; iintro Ho
  ihave Ho := (Entails.of_eq (pointsTo_congr (summed_eq m ρ c i f0))) $$ Ho
  iapply (wp_sent m ρ K c (Y c) 2 3 i (src := oP c i) (dst := oP c i) (fd := g0) (O := oweL (dmaCell (Y c) 3) l)
    (credit_oP c i) (Entails.refl _) (shared_pay m ρ c i g0)) $$ [Ho Hn HO Ht2 Ht3]
  · isplitr; · iexact HR
    isplitl [Ho]; · iexact Ho
    isplitl [Hn]; · iexact Hn
    isplitl [HO]; · iexact HO
    isplitl [Ht2] <;> iassumption
  iintro ⟨Hc, HO⟩
  iapply Hk
  isplitl [Hz Hb Hr Hc]
  · isplitl [Hz]; · iexact Hz
    isplitl [Hb]; · iexact Hb
    isplitl [Hr] <;> iassumption
  isplitr; · iexact HR
  isplitr; · iexact Hlev
  iexists _; iexact HO

/-! ## The third loop -/

def pre3 (c : Dev nD) (i : Fin 32) : sProp 𝕄 :=
  iprop((cred (tallyAt (dmaCell c 0 i) () N) ∗ atPos ER (dmaCell c 0 i) 0 ∅ 0)
    ∗ (cred (tallyAt (dmaCell c 2 i) () N) ∗ atPos ER (dmaCell c 2 i) 0 ∅ 0)
    ∗ (cred (tallyAt (dmaCell c 3 i) () N) ∗ atPos ER (dmaCell c 3 i) 0 ∅ 0))
def post3 (c : Dev nD) (i : Fin 32) : sProp 𝕄 :=
  iprop(semVal (dmaCell c 0 i) 0 ∗ semVal (dmaCell c 2 i) 0 ∗ semVal (dmaCell c 3 i) 0
    ∗ bPts c i fullShare.left (xstg m ρ c) ∗ oPts c c i (outAt m ρ c) ∗ oPts c (Y c) i (outAt m ρ c))
def st3 (K : Dev nD × CK → ℕ) (c : Dev nD) (_ : List (Fin 32)) : sProp 𝕄 :=
  iprop(records m ρ K ∗ ∃ W, owes (c : Thread nD τ) 0 W)

theorem wp_stage3 (K : Dev nD × CK → ℕ) (c : Dev nD) (Q : PUnit → sProp 𝕄) (i : Fin 32) (l : List (Fin 32))
    (k : Prog (TpuEff nD τ sig (Elt F) Λ₀ .tc) PUnit) :
    iprop(pre3 c i ∗ st3 m ρ K c (i :: l)) ⊢ iprop(((post3 m ρ c i ∗ st3 m ρ K c l)
        -∗ wp frame (wpE (defs₀ (F := F)) 𝒱₀ (c : Thread nD τ) none) Set.univ k Q)
      -∗ wp frame (wpE (defs₀ (F := F)) 𝒱₀ (c : Thread nD τ) none) Set.univ (stage3 c i >>= fun _ => k) Q) := by
  unfold stage3 stage3At pre3 post3 st3
  simp only [Prog.lift, Prog.bind_op, Prog.bind_ret, Prog.pure_eq_ret]
  iintro ⟨⟨⟨Hc0, Ha0⟩, ⟨Hc2, Ha2⟩, ⟨Hc3, Ha3⟩⟩, #HR, ⟨%W, HO⟩⟩ Hk
  iapply (wp_arrived m ρ K c 0 i (rC i) (bC i) (credit_bC i)) $$ [Hc0 Ha0 HO]
  · isplitr; · iexact HR
    isplitl [Hc0]; · iexact Hc0
    isplitl [HO]; · iexact HO
    isplitr; · rw [MayWait_zero]; iempintro
    iexact Ha0
  iintro ⟨HO, Hz0, Hb⟩
  iapply (wp_arrived m ρ K c 2 i (oP c i) (oP c i) (credit_oP c i)) $$ [Hc2 Ha2 HO]
  · isplitr; · iexact HR
    isplitl [Hc2]; · iexact Hc2
    isplitl [HO]; · iexact HO
    isplitr; · rw [MayWait_zero]; iempintro
    iexact Ha2
  iintro ⟨HO, Hz2, Ho⟩
  iapply (wp_arrived m ρ K c 3 i (oP c i) (oP c i) (credit_oP c i)) $$ [Hc3 Ha3 HO]
  · isplitr; · iexact HR
    isplitl [Hc3]; · iexact Hc3
    isplitl [HO]; · iexact HO
    isplitr; · rw [MayWait_zero]; iempintro
    iexact Ha3
  iintro ⟨HO, Hz3, Hn⟩
  iapply Hk
  isplitl [Hz0 Hz2 Hz3 Hb Ho Hn]
  · isplitl [Hz0]; · iexact Hz0
    isplitl [Hz2]; · iexact Hz2
    isplitl [Hz3]; · iexact Hz3
    isplitl [Hb]; · iapply (show dmaPay m ρ c 0 i ⊢ bPts c i fullShare.left (xstg m ρ c) from Entails.refl _); iexact Hb
    isplitl [Ho]; · iapply (show dmaPay m ρ c 2 i ⊢ oPts c c i (outAt m ρ c) from Entails.refl _); iexact Ho
    iapply (show dmaPay m ρ c 3 i ⊢ oPts c (Y c) i (outAt m ρ c) from Entails.refl _); iexact Hn
  isplitr; · iexact HR
  iexists _; iexact HO

end Cert.AllReduce

end
-- ==== Proof.Pieces.lean ====
/-
The buffers cut into their chunks: the 32 chunks of rows of the copy and of the landing buffer; the result's two halves of
the columns, 32 chunks of rows each.
-/
module

public import proofs.«01_k».proof.Proof.Protocol
public import Idealize.ShloMosaic.Lib.Pipeline.BigSepL

@[expose] public section

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-- Over all chunks, listed. -/
theorem over_chunks (Φ : Fin 32 → sProp 𝕄) : bigSep Finset.univ Φ = bigSepL chunks Φ :=
  bigSep_univ_eq_bigSepL chunks (by decide) (by decide) Φ

omit [FloatOps F] in
/-- A buffer held whole is held piece by piece. -/
theorem cut {T : Type} [Fintype T] {ℓ : Loc nD τ sig} (q : PosShare TreeShare) (f : Buf (Elt F) ℓ) (K : T → Finset (Idx ℓ))
    (hd : ∀ t u, t ≠ u → Disjoint (K t) (K u)) (hc : Finset.univ.biUnion K = Finset.univ) :
    (ℓ ↦{q} f : sProp 𝕄) = bigSep Finset.univ fun t => ℓ ↦[K t]{q} f := by
  rw [← pointsTo_biUnion Finset.univ K (fun t _ u _ h => hd t u h), hc]

/-! ## The chunks of rows -/

theorem rows_disjoint (i k : Fin 32) (h : i ≠ k) : Disjoint (rows i).set (rows k).set := by
  refine Finset.disjoint_left.mpr fun j hi hk => h (Fin.ext ?_)
  have a := (Rect.mem_set_unit.mp hi) 0
  have b := (Rect.mem_set_unit.mp hk) 0
  have a1 : 64 * i.val ≤ (j 0).val := a.1
  have a2 : (j 0).val < 64 * i.val + 64 := a.2
  have b1 : 64 * k.val ≤ (j 0).val := b.1
  have b2 : (j 0).val < 64 * k.val + 64 := b.2
  omega

theorem rows_cover : Finset.univ.biUnion (fun i : Fin 32 => (rows i).set) = Finset.univ := by
  refine Finset.eq_univ_of_forall fun j => Finset.mem_biUnion.mpr ?_
  have h0 : (j 0).val < 2048 := (j 0).isLt
  have h1 : (j 1).val < 1024 := (j 1).isLt
  refine ⟨⟨(j 0).val / 64, by omega⟩, Finset.mem_univ _, Rect.mem_set_unit.mpr fun a => ?_⟩
  fin_cases a
  · show 64 * ((j 0).val / 64) ≤ (j 0).val ∧ (j 0).val < 64 * ((j 0).val / 64) + 64
    omega
  · show 0 ≤ (j 1).val ∧ (j 1).val < 0 + 1024
    omega

theorem bPts_whole (c : Dev nD) (q : PosShare TreeShare) (f : Buf (Elt F) ((c : Thread nD τ).loc cc0_scratch0)) :
    (((c : Thread nD τ).loc cc0_scratch0) ↦{q} f : sProp 𝕄) = bigSep Finset.univ fun i : Fin 32 => bPts c i q f := by
  refine (cut (ℓ := (c : Thread nD τ).loc cc0_scratch0) q f (fun i : Fin 32 => (rows i).set) rows_disjoint rows_cover).trans (bigSep_congr fun i _ => ?_)
  unfold bPts
  rw [show (bC i).view.set = (rows i).set from View.set_slice_whole cc0_scratch0 (rows i)]
theorem rPts_whole (c : Dev nD) (f : Buf (Elt F) ((c : Thread nD τ).loc cc0_scratch1)) :
    (((c : Thread nD τ).loc cc0_scratch1) ↦{fullShare} f : sProp 𝕄) = bigSep Finset.univ fun i : Fin 32 => rPts c i f := by
  refine (cut (ℓ := (c : Thread nD τ).loc cc0_scratch1) fullShare f (fun i : Fin 32 => (rows i).set) rows_disjoint rows_cover).trans (bigSep_congr fun i _ => ?_)
  unfold rPts
  rw [show (rC i).view.set = (rows i).set from View.set_slice_whole cc0_scratch1 (rows i)]

/-! ## The chunks of the result -/

/-- The two devices of `c`'s row. -/
abbrev rowDev (c : Dev nD) (b : Bool) : Dev nD := if b then Y c else c

theorem oR_mem (d : Dev nD) (i : Fin 32) (j : S2048x2048.Idx) :
    j ∈ (oR d i).set ↔ (64 * i.val ≤ (j 0).val ∧ (j 0).val < 64 * i.val + 64)
      ∧ (1024 * (d.val % 2) ≤ (j 1).val ∧ (j 1).val < 1024 * (d.val % 2) + 1024) := by
  rw [Rect.mem_set_unit]
  constructor
  · intro h; exact ⟨h 0, h 1⟩
  · intro h a
    fin_cases a
    · exact h.1
    · exact h.2

theorem rowDev_half (c : Dev nD) (b : Bool) : (rowDev c b).val % 2 = if b then 1 - c.val % 2 else c.val % 2 := by
  revert c b; decide

theorem oR_disjoint (c : Dev nD) (t u : Bool × Fin 32) (h : t ≠ u) : Disjoint (oR (rowDev c t.1) t.2).set (oR (rowDev c u.1) u.2).set := by
  refine Finset.disjoint_left.mpr fun j ht hu => h ?_
  rw [oR_mem, rowDev_half] at ht hu
  obtain ⟨b, i⟩ := t
  obtain ⟨b', k⟩ := u
  have hi : i = k := Fin.ext (by dsimp only at ht hu; omega)
  have hb : b = b' := by
    cases b <;> cases b' <;> first | rfl | (exfalso; simp at ht hu; omega)
  rw [hi, hb]

theorem oR_cover (c : Dev nD) : Finset.univ.biUnion (fun t : Bool × Fin 32 => (oR (rowDev c t.1) t.2).set) = Finset.univ := by
  refine Finset.eq_univ_of_forall fun j => Finset.mem_biUnion.mpr ?_
  have h0 : (j 0).val < 2048 := (j 0).isLt
  have h1 : (j 1).val < 2048 := (j 1).isLt
  by_cases hc : (j 1).val / 1024 = c.val % 2
  · refine ⟨(false, ⟨(j 0).val / 64, by omega⟩), Finset.mem_univ _, (oR_mem _ _ _).mpr ?_⟩
    rw [rowDev_half]
    simp only [Bool.false_eq_true, if_false]
    omega
  · refine ⟨(true, ⟨(j 0).val / 64, by omega⟩), Finset.mem_univ _, (oR_mem _ _ _).mpr ?_⟩
    rw [rowDev_half]
    simp only [if_true]
    omega

theorem oPts_whole (c : Dev nD) (f : Buf (Elt F) ((c : Thread nD τ).loc cc0_stg1_0)) :
    (((c : Thread nD τ).loc cc0_stg1_0) ↦{fullShare} f : sProp 𝕄)
      = iprop((bigSep Finset.univ fun i : Fin 32 => oPts c c i f) ∗ bigSep Finset.univ fun i : Fin 32 => oPts c (Y c) i f) := by
  refine (cut (ℓ := (c : Thread nD τ).loc cc0_stg1_0) fullShare f (fun t : Bool × Fin 32 => (oR (rowDev c t.1) t.2).set) (oR_disjoint c) (oR_cover c)).trans ?_
  rw [bigSep_univ_prod, bigSep_univ_eq_bigSepL [false, true] (by decide) (by decide), bigSepL_cons', bigSepL_singleton]
  have hs (d : Dev nD) : (bigSep Finset.univ fun i : Fin 32 => (((c : Thread nD τ).loc cc0_stg1_0) ↦[(oR d i).set]{fullShare} f : sProp 𝕄))
      = bigSep Finset.univ fun i : Fin 32 => oPts c d i f := bigSep_congr fun i _ => by
    unfold oPts
    rw [show (oP d i).view.set = (oR d i).set from View.set_slice_whole cc0_stg1_0 (oR d i)]
  exact congrArg₂ _ (hs c) (hs (Y c))

end Cert.AllReduce

end
-- ==== Proof.Body.lean ====
/-
The kernel's body on device `c`: from what the launch deals it to the result.
-/
module

public import proofs.«01_k».proof.Proof.Passes
public import proofs.«01_k».proof.Proof.Pieces

@[expose] public section

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What the body starts from and leaves -/

/-- Over all chunks. -/
abbrev each (Φ : Fin 32 → sProp 𝕄) : sProp 𝕄 := bigSep Finset.univ Φ

/-- Device `c`'s positions at its own semaphores. -/
def places (c : Dev nD) : sProp 𝕄 :=
  iprop(atPos ER (barCell c) 0 ∅ 0 ∗ each (fun i => atPos ER (dmaCell c 0 i) 0 ∅ 0) ∗ each (fun i => atPos ER (dmaCell c 1 i) 0 ∅ 0)
    ∗ each (fun i => atPos ER (dmaCell c 2 i) 0 ∅ 0) ∗ each (fun i => atPos ER (dmaCell c 3 i) 0 ∅ 0))
/-- The duties device `c` pays: a signal to each neighbour, and both ends of each of its copies. -/
def payToks (c : Dev nD) : sProp 𝕄 :=
  iprop((dutyTok ER (barCell (X c)) 0 false ∗ dutyTok ER (barCell (Y c)) 0 true) ∗ each (fun i => dutyTok ER (dmaCell c 0 i) 0 false)
    ∗ each (fun i => dutyTok ER (dmaCell (X c) 1 i) 0 false) ∗ each (fun i => dutyTok ER (dmaCell c 2 i) 0 false)
    ∗ each (fun i => dutyTok ER (dmaCell (Y c) 3 i) 0 false))
/-- The credit it waits with. -/
def credits (c : Dev nD) : sProp 𝕄 :=
  iprop(cred (tallyAt (barCell c) () 2) ∗ each (fun i => cred (tallyAt (dmaCell c 1 i) () N)) ∗ each (fun i => cred (tallyAt (dmaCell c 3 i) () N)))

def ghost (K : Dev nD × CK → ℕ) (c : Dev nD) : sProp 𝕄 := iprop(records m ρ K ∗ places c ∗ payToks c)
def start (c : Dev nD) : sProp 𝕄 := iprop((∃ K, ghost m ρ K c) ∗ credits c ∗ levAts L lv)

/-- The two scratch buffers, each whole at some contents. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))
/-- Every copy semaphore of device `c` at zero. -/
def zeros (c : Dev nD) : sProp 𝕄 :=
  iprop(each (fun i => semVal (dmaCell c 0 i) 0) ∗ each (fun i => semVal (dmaCell c 1 i) 0) ∗ each (fun i => semVal (dmaCell c 2 i) 0)
    ∗ each (fun i => semVal (dmaCell c 3 i) 0))

def Φ₀ (c : Dev nD) : sProp 𝕄 := iprop(start m ρ c ∗ scratch c)
def Φ₁ (c : Dev nD) : sProp 𝕄 := iprop(scratch (F := F) c ∗ semVal (barCell c) 0 ∗ zeros c)

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The launch's proof data: the block of `x` staged, the result, what the body starts from and leaves, what is owed. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

theorem owns_whole_eq (c : Dev nD) (b : Ref sig .tc) (V : b.ty.Contents (Elt F)) :
    (owns (Ix := Unit) (Name := ℕ) (U := UU) (Lvl := ℕ) (c : Thread nD τ) (Memref.whole b) fullShare V : sProp 𝕄)
      = iprop(∃ f : Buf (Elt F) (((c : Dev nD) : Thread nD τ).loc b), ⌜f = V⌝ ∗ (((c : Thread nD τ).loc b) ↦{fullShare} f)) := by
  unfold owns; simp only [Memref.view_whole, View.read_whole, View.set_whole]

abbrev stg (c : Dev nD) (b : Ref sig .tc) (V : b.ty.Contents (Elt F)) : sProp 𝕄 :=
  iprop(∃ f : Buf (Elt F) (((c : Dev nD) : Thread nD τ).loc b), ⌜f = V⌝ ∗ (((c : Thread nD τ).loc b) ↦{fullShare} f))

/-! ## Chunk by chunk -/

theorem each_some {Ψ : Fin 32 → Type} {P : (i : Fin 32) → Ψ i → sProp 𝕄} (f : (i : Fin 32) → Ψ i) :
    each (fun i => P i (f i)) ⊢ each (fun i => iprop(∃ v, P i v)) :=
  bigSep_mono fun i _ => by
    show (P i (f i) : sProp 𝕄) ⊢ iprop(∃ v, P i v)
    iintro H; iexists (f i); iexact H

theorem bPts_each (c : Dev nD) (f : Buf (Elt F) ((c : Thread nD τ).loc cc0_scratch0)) :
    (((c : Thread nD τ).loc cc0_scratch0) ↦{fullShare} f : sProp 𝕄) ⊢ each fun i => iprop(∃ f, bPts c i fullShare f) := by
  rw [bPts_whole]; exact each_some (P := fun i v => bPts (F := F) c i fullShare v) fun _ => f
theorem rPts_each (c : Dev nD) (f : Buf (Elt F) ((c : Thread nD τ).loc cc0_scratch1)) :
    (((c : Thread nD τ).loc cc0_scratch1) ↦{fullShare} f : sProp 𝕄) ⊢ each fun i => iprop(∃ f, rPts c i f) := by
  rw [rPts_whole]; exact each_some (P := fun i v => rPts (F := F) c i v) fun _ => f
theorem oPts_each (c d : Dev nD) (f : Buf (Elt F) ((c : Thread nD τ).loc cc0_stg1_0)) :
    (each fun i => oPts c d i f : sProp 𝕄) ⊢ each fun i => iprop(∃ f, oPts c d i f) :=
  each_some (P := fun i v => oPts (F := F) c d i v) fun _ => f

/-- The landing buffer, chunk by chunk, is what the signal to `X c` hands over; -/
theorem signal_X (c : Dev nD) : (each fun i => iprop(∃ f, rPts (F := F) c i f) : sProp 𝕄) ⊢ barX (X c) := by
  unfold barX; rw [X_X]
/-- the result in `Y c`'s half of the columns what the signal to `Y c` does. -/
theorem signal_Y (c : Dev nD) : (each fun i => iprop(∃ f, oPts (F := F) c (Y c) i f) : sProp 𝕄) ⊢ barY (Y c) := by
  unfold barY; rw [Y_Y]

/-- What the passes of the first loop start from and leave; -/
theorem all_pre1 (c : Dev nD) : iprop(each (fun i => dutyTok ER (dmaCell c 0 i) 0 false) ∗ each (fun i => dutyTok ER (dmaCell (X c) 1 i) 0 false)
    ∗ each (fun i => iprop(∃ f, bPts (F := F) c i fullShare f)) ∗ barX c) ⊢ bigSepL chunks (pre1 (F := F) c) := by
  rw [← over_chunks]; unfold pre1 barX
  rw [bigSep_sep', bigSep_sep', bigSep_sep']
theorem all_post1 (c : Dev nD) : bigSepL chunks (post1 m ρ c)
    ⊢ iprop(each (fun i => cred (tallyAt (dmaCell c 0 i) () N)) ∗ each (fun i => bPts c i fullShare.right (xstg m ρ c))) := by
  rw [← over_chunks]; unfold post1
  rw [bigSep_sep']
/-- of the second; -/
theorem all_pre2 (c : Dev nD) : iprop(each (fun i => atPos ER (dmaCell c 1 i) 0 ∅ 0) ∗ each (fun i => cred (tallyAt (dmaCell c 1 i) () N))
    ∗ each (fun i => dutyTok ER (dmaCell c 2 i) 0 false) ∗ each (fun i => dutyTok ER (dmaCell (Y c) 3 i) 0 false)
    ∗ each (fun i => bPts c i fullShare.right (xstg m ρ c)) ∗ each (fun i => iprop(∃ f, oPts (F := F) c c i f)) ∗ barY c) ⊢ bigSepL chunks (pre2 m ρ c) := by
  rw [← over_chunks]; unfold pre2 barY
  rw [bigSep_sep', bigSep_sep', bigSep_sep', bigSep_sep', bigSep_sep', bigSep_sep']
theorem all_post2 (c : Dev nD) : bigSepL chunks (post2 m ρ c)
    ⊢ iprop(each (fun i => semVal (dmaCell c 1 i) 0) ∗ each (fun i => bPts c i fullShare.right (xstg m ρ c)) ∗ each (fun i => rPts c i (xstg m ρ (X c)))
      ∗ each (fun i => cred (tallyAt (dmaCell c 2 i) () N))) := by
  rw [← over_chunks]; unfold post2
  rw [bigSep_sep', bigSep_sep', bigSep_sep']
/-- of the third. -/
theorem all_pre3 (c : Dev nD) : iprop((each (fun i => cred (tallyAt (dmaCell c 0 i) () N)) ∗ each (fun i => atPos ER (dmaCell c 0 i) 0 ∅ 0))
    ∗ (each (fun i => cred (tallyAt (dmaCell c 2 i) () N)) ∗ each (fun i => atPos ER (dmaCell c 2 i) 0 ∅ 0))
    ∗ (each (fun i => cred (tallyAt (dmaCell c 3 i) () N)) ∗ each (fun i => atPos ER (dmaCell c 3 i) 0 ∅ 0))) ⊢ bigSepL chunks (pre3 (F := F) c) := by
  rw [← over_chunks]; unfold pre3
  rw [bigSep_sep', bigSep_sep', bigSep_sep', bigSep_sep', bigSep_sep']
theorem all_post3 (c : Dev nD) : bigSepL chunks (post3 m ρ c)
    ⊢ iprop(each (fun i => semVal (dmaCell c 0 i) 0) ∗ each (fun i => semVal (dmaCell c 2 i) 0) ∗ each (fun i => semVal (dmaCell c 3 i) 0)
      ∗ each (fun i => bPts c i fullShare.left (xstg m ρ c)) ∗ each (fun i => oPts c c i (outAt m ρ c)) ∗ each (fun i => oPts c (Y c) i (outAt m ρ c))) := by
  rw [← over_chunks]; unfold post3
  rw [bigSep_sep', bigSep_sep', bigSep_sep', bigSep_sep', bigSep_sep']

/-- The copy's two halves of every chunk are the copy, whole. -/
theorem copy_whole (c : Dev nD) : iprop(each (fun i => bPts c i fullShare.left (xstg m ρ c)) ∗ each (fun i => bPts c i fullShare.right (xstg m ρ c)))
    ⊢ (((c : Thread nD τ).loc cc0_scratch0) ↦{fullShare} (xstg m ρ c : Buf (Elt F) ((c : Thread nD τ).loc cc0_scratch0)) : sProp 𝕄) := by
  rw [bPts_whole, ← bigSep_sep']
  exact bigSep_mono fun i _ => by unfold bPts; exact (pointsTo_share (PosShare.mem_left_op_right fullShare)).2

/-! ## The three loops -/

/-- The loops, from what is held after the barrier. -/
theorem sound_loops (K : Dev nD × CK → ℕ) (c : Dev nD) (Kt : PUnit → sProp 𝕄) (W : Waits sig Unit) :
    iprop((records m ρ K ∗ levAts L lv ∗ owes (c : Thread nD τ) (Ocopy c) W ∗ xPts m ρ c)
        ∗ (each (fun i => dutyTok ER (dmaCell c 0 i) 0 false) ∗ each (fun i => dutyTok ER (dmaCell (X c) 1 i) 0 false)
          ∗ each (fun i => iprop(∃ f, bPts (F := F) c i fullShare f)) ∗ barX c)
        ∗ (each (fun i => atPos ER (dmaCell c 1 i) 0 ∅ 0) ∗ each (fun i => cred (tallyAt (dmaCell c 1 i) () N))
          ∗ each (fun i => dutyTok ER (dmaCell c 2 i) 0 false) ∗ each (fun i => dutyTok ER (dmaCell (Y c) 3 i) 0 false)
          ∗ each (fun i => iprop(∃ f, oPts (F := F) c c i f)) ∗ barY c)
        ∗ (each (fun i => atPos ER (dmaCell c 0 i) 0 ∅ 0) ∗ each (fun i => atPos ER (dmaCell c 2 i) 0 ∅ 0) ∗ each (fun i => atPos ER (dmaCell c 3 i) 0 ∅ 0)
          ∗ each (fun i => cred (tallyAt (dmaCell c 3 i) () N)))
        ∗ ((scratch (F := F) c ∗ zeros c ∗ (∃ W, owes (c : Thread nD τ) 0 W) ∗ xPts m ρ c
            ∗ (((c : Thread nD τ).loc cc0_stg1_0) ↦{fullShare} outAt m ρ c)) -∗ Kt ⟨⟩))
      ⊢ wp frame (wpE (defs₀ (F := F)) 𝒱₀ (c : Thread nD τ) none) Set.univ (loops c) Kt := by
  unfold loops
  iintro ⟨⟨#HR, #Hlev, HO, Hx⟩, H1, ⟨Ha1, Hc1, Ht2, Ht3, Ho, Hn⟩, ⟨Ha0, Ha2, Ha3, Hc3⟩, Hk⟩
  ihave H1 := (all_pre1 c) $$ H1
  iapply (wp_loop c (stage1 c) (pre1 c) (post1 m ρ c) (st1 m ρ K c) Kt (wp_stage1 m ρ K c Kt) (loop (stage2 c) chunks (loop (stage3 c) chunks (pure ⟨⟩))) chunks)
    $$ [H1 HO Hx]
  · isplitl [H1]; · iexact H1
    unfold st1
    isplitr; · iexact HR
    isplitl [Hx]; · iexact Hx
    iexists W; iexact HO
  iintro ⟨H1, Hst⟩
  unfold st1
  icases Hst with ⟨-, Hx, ⟨%W1, HO⟩⟩
  ihave H1 := (all_post1 m ρ c) $$ H1
  icases H1 with ⟨Hc0, Hb⟩
  ihave H2 := (all_pre2 m ρ c) $$ [Ha1 Hc1 Ht2 Ht3 Hb Ho Hn]
  · isplitl [Ha1]; · iexact Ha1
    isplitl [Hc1]; · iexact Hc1
    isplitl [Ht2]; · iexact Ht2
    isplitl [Ht3]; · iexact Ht3
    isplitl [Hb]; · iexact Hb
    isplitl [Ho] <;> iassumption
  iapply (wp_loop c (stage2 c) (pre2 m ρ c) (post2 m ρ c) (st2 m ρ K c) Kt (wp_stage2 m ρ K c Kt) (loop (stage3 c) chunks (pure ⟨⟩)) chunks)
    $$ [H2 HO]
  · isplitl [H2]; · iexact H2
    unfold st2
    isplitr; · iexact HR
    isplitr; · iexact Hlev
    iexists W1
    rw [show oweL (dmaCell (X c) 1) [] = 0 from rfl, add_zero]
    iexact HO
  iintro ⟨H2, Hst⟩
  unfold st2
  icases Hst with ⟨-, -, ⟨%W2, HO⟩⟩
  ihave H2 := (all_post2 m ρ c) $$ H2
  icases H2 with ⟨Hz1, Hb, Hr, Hc2⟩
  ihave H3 := (all_pre3 c) $$ [Hc0 Ha0 Hc2 Ha2 Hc3 Ha3]
  · isplitl [Hc0 Ha0]; · isplitl [Hc0] <;> iassumption
    isplitl [Hc2 Ha2]; · isplitl [Hc2] <;> iassumption
    isplitl [Hc3] <;> iassumption
  iapply (wp_loop c (stage3 c) (pre3 c) (post3 m ρ c) (st3 m ρ K c) Kt (wp_stage3 m ρ K c Kt) (pure ⟨⟩) chunks) $$ [H3 HO]
  · isplitl [H3]; · iexact H3
    unfold st3
    isplitr; · iexact HR
    iexists W2; iexact HO
  iintro ⟨H3, Hst⟩
  unfold st3
  icases Hst with ⟨-, HO⟩
  ihave H3 := (all_post3 m ρ c) $$ H3
  icases H3 with ⟨Hz0, Hz2, Hz3, HbL, Ho, Hn⟩
  rw [Prog.pure_eq_ret, wp_ret]; imodintro
  iapply Hk
  unfold scratch zeros
  isplitl [HbL Hb Hr]
  · isplitl [HbL Hb]
    · iexists (xstg m ρ c : Buf (Elt F) ((c : Thread nD τ).loc cc0_scratch0))
      iapply (copy_whole m ρ c)
      isplitl [HbL] <;> iassumption
    · iexists (xstg m ρ (X c) : Buf (Elt F) ((c : Thread nD τ).loc cc0_scratch1))
      iapply (Entails.of_eq (rPts_whole c (xstg m ρ (X c) : Buf (Elt F) ((c : Thread nD τ).loc cc0_scratch1))).symm)
      iexact Hr
  isplitl [Hz0 Hz1 Hz2 Hz3]
  · isplitl [Hz0]; · iexact Hz0
    isplitl [Hz1]; · iexact Hz1
    isplitl [Hz2] <;> iassumption
  isplitl [HO]; · iexact HO
  isplitl [Hx]; · iexact Hx
  iapply (Entails.of_eq (oPts_whole c (outAt m ρ c)).symm)
  isplitl [Ho] <;> iassumption

/-! ## The body -/

def bodyPre (K : Dev nD × CK → ℕ) (c : Dev nD) : sProp 𝕄 :=
  iprop((ghost m ρ K c ∗ credits c ∗ levAts L lv ∗ scratch c)
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ c ∗ (dats m ρ 0 c).owesAt () t₀.succ ∗ stg c cc0_stg0_0 (xstg m ρ c) ∗ stg c cc0_stg1_0 (outAt m ρ c))

theorem sound_body (K : Dev nD × CK → ℕ) (c : Dev nD) (Kt : PUnit → sProp 𝕄) :
    iprop(bodyPre m ρ K c ∗ (bodyPost m ρ c -∗ Kt ⟨⟩))
      ⊢ wp frame (wpE (defs₀ (F := F)) 𝒱₀ (c : Thread nD τ) none) Set.univ body Kt := by
  unfold body
  simp only [semSignalWord, semWaitWord, Prog.lift, Prog.bind_op, Prog.bind_ret, Prog.pure_eq_ret, wp_deviceId]
  unfold bodyPre ghost places payToks credits scratch
  iintro ⟨⟨⟨⟨#HR, ⟨HaB, Ha0, Ha1, Ha2, Ha3⟩, ⟨HtX, HtY⟩, Ht0, Ht1, Ht2, Ht3⟩, ⟨HcB, Hc1, Hc3⟩, #Hlev, ⟨⟨%b0, Hb⟩, ⟨%r0, Hr⟩⟩⟩,
    Ho, ⟨%d0, %g0, %hg0, Hx⟩, ⟨%d1, %g1, %hg1, Hout⟩⟩, Hk⟩
  have hx : g0 = xstg m ρ c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = O₀ c from rfl]
  ihave Hout := (Entails.of_eq (oPts_whole c g1)) $$ Hout
  icases Hout with ⟨Hoc, Hoy⟩
  ihave Hoc := (oPts_each c c g1) $$ Hoc
  ihave Hoy := (oPts_each c (Y c) g1) $$ Hoy
  ihave Hb := (bPts_each c b0) $$ Hb
  ihave Hr := (rPts_each c r0) $$ Hr
  -- the signal to `X c`, with the landing buffer
  iapply (Rounds.wp_signal 𝒱₀ ER (sched m ρ) (c : Thread nD τ) none (dst := (X c : Thread nD τ)) (κ := K (X c, .inl ()))
      (d := false) (by rw [duties_bar]; exact Finset.mem_univ _) ((amount_bar m ρ (X c) false).trans (by decide)) () (O₁ c) rfl)
    $$ [HO HtX Hr]
  · isplitr; · iapply (inv_bar m ρ K (X c)); iexact HR
    isplitl [HO]; · iexact HO
    isplitl [HtX]; · iexact HtX
    isplitl [Hr]; · rw [payload_bar_false]; iapply (signal_X c); iexact Hr
    iapply (reached_bar m ρ K (X c)); iexact HR
  iintro HO
  -- the signal to `Y c`, with the result in its half of the columns
  unfold O₁
  iapply (Rounds.wp_signal 𝒱₀ ER (sched m ρ) (c : Thread nD τ) none (dst := (Y c : Thread nD τ)) (κ := K (Y c, .inl ()))
      (d := true) (by rw [duties_bar]; exact Finset.mem_univ _) ((amount_bar m ρ (Y c) true).trans (by decide)) () (Ocopy c) rfl)
    $$ [HO HtY Hoy]
  · isplitr; · iapply (inv_bar m ρ K (Y c)); iexact HR
    isplitl [HO]; · iexact HO
    isplitl [HtY]; · iexact HtY
    isplitl [Hoy]; · rw [payload_bar_true]; iapply (signal_Y c); iexact Hoy
    iapply (reached_bar m ρ K (Y c)); iexact HR
  iintro HO
  -- the wait for both neighbours' signals
  iapply (Rounds.wp_wait_rest_token 𝒱₀ ER (sched m ρ) (c : Thread nD τ) none (κ := K (c, .inl ()))
      (wpE_semWait_eq 𝒱₀ (c : Thread nD τ) none Set.univ) (Set.mem_univ _) () (O := Ocopy c) (W := W) (R := 0) (m := 0) (T := ∅)
      (by rw [expect_bar]; decide)) $$ [HcB HO HaB]
  · isplitr; · iapply (inv_bar m ρ K c); iexact HR
    isplitl [HcB]; · iexact HcB
    isplitl [HO]; · iexact HO
    isplitr; · iapply (mayWait_bar c); iexact Hlev
    iexact HaB
  iintro ⟨HO, HaB, -, Hpay⟩
  ihave Hp := (Entails.of_eq (rest_bar m ρ c)) $$ Hpay
  icases Hp with ⟨HX, HY⟩
  imod (Rounds.cell_close ER (sched m ρ) (Set.mem_univ (K (c, .inl ()))) (fun h => h) (R := 0 + 1) (duties_later m ρ (barCell c))) $$ [HaB] with HzB
  · isplitr; · iapply (inv_bar m ρ K c); iexact HR
    iexact HaB
  iapply (sound_loops m ρ K c Kt (insert (SemLoc.reg barS, ()) W))
  isplitl [HO Hx]
  · isplitr; · iexact HR
    isplitr; · iexact Hlev
    isplitl [HO]; · iexact HO
    unfold xPts; iexact Hx
  isplitl [Ht0 Ht1 Hb HX]
  · isplitl [Ht0]; · iexact Ht0
    isplitl [Ht1]; · iexact Ht1
    isplitl [Hb] <;> iassumption
  isplitl [Ha1 Hc1 Ht2 Ht3 Hoc HY]
  · isplitl [Ha1]; · iexact Ha1
    isplitl [Hc1]; · iexact Hc1
    isplitl [Ht2]; · iexact Ht2
    isplitl [Ht3]; · iexact Ht3
    isplitl [Hoc] <;> iassumption
  isplitl [Ha0 Ha2 Ha3 Hc3]
  · isplitl [Ha0]; · iexact Ha0
    isplitl [Ha2]; · iexact Ha2
    isplitl [Ha3] <;> iassumption
  iintro ⟨Hscr, Hz, ⟨%W', HO⟩, Hx, Hout⟩
  iapply Hk
  unfold bodyPost Φ₁ Dat.owesAt Pipeline.owesWithin
  rw [show (dats m ρ 0 c).owed t₀.succ = 0 from rfl]
  isplitl [Hscr HzB Hz]
  · isplitl [Hscr]; · iexact Hscr
    isplitl [HzB] <;> iassumption
  isplitl [HO]
  · iexists W'
    isplitr; · ipureintro; exact fun _ _ => Or.inl trivial
    iexact HO
  isplitl [Hx]
  · iexists _; isplitr; · (ipureintro; rfl)
    unfold xPts; iexact Hx
  iexists _; isplitr; · (ipureintro; rfl)
  iexact Hout

set_option maxRecDepth 4000 in
def bodyPre' (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

set_option maxRecDepth 65536 in
/-- The body meets the launch's obligation. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre' m ρ c ⊢ wp frame (wpE (defs₀ (F := F)) 𝒱₀ (c : Thread nD τ) none) Set.univ
    (cc0_body xM (Memref.isWhole_whole _) oM (Memref.isWhole_whole _) bM (Memref.isWhole_whole _) rM (Memref.isWhole_whole _)
      cc0_scratch2 cc0_scratch3 cc0_scratch4 cc0_scratch5) (fun _ => bodyPost m ρ c)
  rw [body_eq]
  unfold bodyPre' Φ₀ start
  iintro ⟨⟨⟨⟨%K, Hg⟩, Hc, Hl⟩, Hs⟩, Ho, Hx, Hout⟩
  iapply (sound_body m ρ K c fun _ => bodyPost m ρ c)
  unfold bodyPre
  isplitr []
  · isplitl [Hg Hc Hl Hs]
    · isplitl [Hg]; · iexact Hg
      isplitl [Hc]; · iexact Hc
      isplitl [Hl] <;> iassumption
    isplitl [Ho]; · iexact Ho
    isplitl [Hx] <;> iassumption
  · iintro H; iexact H

end Cert.AllReduce

end
-- ==== Proof.Launch.lean ====
/-
The launch: what each device is dealt, and the run.

Every semaphore starts at zero with its round open. Each device is dealt its positions and the tokens of the duties it
pays: its neighbours' barrier and receive semaphores' tokens are theirs dealt around. The barrier is shared, so all
devices' invariants are made at once.
-/
module

public import proofs.«01_k».proof.Proof.Body
public import Idealize.ShloMosaic.Lib.Pipeline.CollectiveSegs

@[expose] public section

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells and the tokens, as finite sets -/

/-- The launch's own semaphores are the copies'. -/
abbrev osem (fi : Fin 4 × Fin 32) : SemLoc sig := .dma (semF fi.1 fi.2)

theorem osem_injective : Function.Injective osem := by
  rintro ⟨f, i⟩ ⟨g, k⟩ h
  have h' : semF f i = semF g k := SemLoc.dma.inj h
  have hf := congrArg famOf h'
  have hi := congrArg numOf h'
  rw [famOf_semF, famOf_semF] at hf
  rw [numOf_semF, numOf_semF] at hi
  rw [hf, hi]

theorem osem_scoped (k : Fin 4 × Fin 32) : (osem k).isScoped .tc = true := by
  revert k; decide +kernel
theorem stage_sem (w : Fin 2) (s) : ((cfg0.spec w).sem s).val < 2 := by revert w s; decide
theorem semF_ge (f : Fin 4) (i : Fin 32) : 2 ≤ (semF f i).val := by revert f i; decide +kernel

theorem ownSemFacts : Pipeline.OwnSemFacts cfg0.spec osem where
  isScoped := osem_scoped
  inj := osem_injective
  disj k w s h := by
    have h' : semF k.1 k.2 = (cfg0.spec w).sem s := SemLoc.dma.inj h
    have h1 := semF_ge k.1 k.2
    have h2 := stage_sem w s
    rw [h'] at h1; omega

theorem share_eq (c : Dev nD) (w : Fin cfg0.W) : (dats m ρ 0 c).share w = fullShare := by unfold Dat.share; split <;> rfl

theorem csem_injective : Function.Injective csem := by
  rintro (_ | k) (_ | k') h
  · rfl
  · exact absurd h (fun h => by cases h)
  · exact absurd h (fun h => by cases h)
  · exact congrArg Sum.inr (osem_injective h)

theorem kcell_injective : Function.Injective kcell := by
  rintro ⟨c, k⟩ ⟨c', k'⟩ h
  have h1 : c = c' := by have := congrArg (fun g : GSem nD τ sig => g.1.1) h; exact this
  have h2 : csem k = csem k' := congrArg Prod.snd h
  rw [h1, csem_injective h2]

theorem dmaCell_inj {a b : Dev nD} {f g : Fin 4} {i k : Fin 32} (h : dmaCell a f i = dmaCell b g k) : a = b ∧ f = g ∧ i = k := by
  have h' : (a, (Sum.inr (f, i) : CK)) = (b, Sum.inr (g, k)) := kcell_injective h
  have h1 := congrArg Prod.fst h'
  have h2 : (f, i) = (g, k) := Sum.inr.inj (congrArg Prod.snd h')
  exact ⟨h1, congrArg Prod.fst h2, congrArg Prod.snd h2⟩
theorem dmaCell_ne_bar {a b : Dev nD} {f : Fin 4} {i : Fin 32} : dmaCell a f i ≠ barCell b := fun h => by
  have := congrArg Prod.snd h; cases this

def cellsAll : Finset (GSem nD τ sig) := Finset.univ.map ⟨kcell, kcell_injective⟩

/-- A device's own semaphores' tokens: its barrier's two, one of each copy semaphore. -/
abbrev TK : Type := Bool ⊕ (Fin 4 × Fin 32)
abbrev tokOf (ct : Dev nD × TK) : GSem nD τ sig × ℕ × Bool := match ct.2 with
  | .inl b => (barCell ct.1, 0, b)
  | .inr fi => (dmaCell ct.1 fi.1 fi.2, 0, false)
theorem tokOf_injective : Function.Injective tokOf := by
  rintro ⟨c, b | fi⟩ ⟨c', b' | fi'⟩ h
  · have h1 : c = c' := congrArg (fun x : GSem nD τ sig × ℕ × Bool => x.1.1.1) h
    have h2 : b = b' := congrArg (fun x : GSem nD τ sig × ℕ × Bool => x.2.2) h
    rw [h1, h2]
  · exact absurd (congrArg Prod.fst h).symm dmaCell_ne_bar
  · exact absurd (congrArg Prod.fst h) dmaCell_ne_bar
  · have h0 : dmaCell c fi.1 fi.2 = dmaCell c' fi'.1 fi'.2 := congrArg Prod.fst h
    obtain ⟨h1, h2, h3⟩ := dmaCell_inj h0
    rw [h1, show fi = fi' from Prod.ext h2 h3]
def toksAll : Finset (GSem nD τ sig × ℕ × Bool) := Finset.univ.map ⟨tokOf, tokOf_injective⟩

def u₀ : UU :=
  (initOf (Pipeline.cells cfgs cellOf_inj) (Pipeline.launchToks cfgs cellOf_inj), initOf cellsAll toksAll)

/-! ## Over the four families -/

theorem over_families (Φ : Fin 4 × Fin 32 → sProp 𝕄) :
    bigSep Finset.univ Φ = iprop(each (fun i => Φ (0, i)) ∗ each (fun i => Φ (1, i)) ∗ each (fun i => Φ (2, i)) ∗ each (fun i => Φ (3, i))) := by
  rw [bigSep_univ_prod, bigSep_univ_eq_bigSepL [0, 1, 2, 3] (by decide) (by decide)]
  rfl
theorem over_cells (Φ : CK → sProp 𝕄) :
    bigSep Finset.univ Φ = iprop(Φ (.inl ()) ∗ bigSep Finset.univ fun fi => Φ (.inr fi)) := by
  rw [BI.bigSep_univ_sum, bigSep_univ_eq_bigSepL [()] (by decide) (by decide)]
  rfl

/-! ## What the launch deals -/

/-- The tokens of device `c`'s own semaphores. -/
def toks (c : Dev nD) : sProp 𝕄 :=
  iprop((dutyTok ER (barCell c) 0 false ∗ dutyTok ER (barCell c) 0 true) ∗ each (fun i => dutyTok ER (dmaCell c 0 i) 0 false)
    ∗ each (fun i => dutyTok ER (dmaCell c 1 i) 0 false) ∗ each (fun i => dutyTok ER (dmaCell c 2 i) 0 false)
    ∗ each (fun i => dutyTok ER (dmaCell c 3 i) 0 false))

def G (c : Dev nD) : sProp 𝕄 :=
  iprop((bigSep Finset.univ fun k : CK => roundState ER (sched m ρ) (kcell (c, k)) 0)
    ∗ (bigSep Finset.univ fun k : CK => iprop(atPos ER (kcell (c, k)) 0 ∅ 0 ∗ reached ER (kcell (c, k)) 0)) ∗ toks c)

/-- What a device's body needs of it. -/
def G' (c : Dev nD) : sProp 𝕄 := iprop(∃ K, ghost m ρ K c)

theorem fund_cells : BI.own (ER (initOf cellsAll toksAll)) ⊢ (|==> bigSep Finset.univ (G m ρ) : sProp 𝕄) := by
  have hX (Φ : GSem nD τ sig → sProp 𝕄) : bigSep cellsAll Φ = bigSep Finset.univ fun c : Dev nD => bigSep Finset.univ fun k : CK => Φ (kcell (c, k)) := by
    unfold cellsAll; rw [bigSep_map, bigSep_univ_prod]; rfl
  have hT : bigSep toksAll (fun x => (dutyTok ER x.1 x.2.1 x.2.2 : sProp 𝕄)) = bigSep Finset.univ fun c : Dev nD => toks c := by
    unfold toksAll; rw [bigSep_map, bigSep_univ_prod]
    refine bigSep_congr fun c _ => ?_
    unfold toks
    rw [BI.bigSep_univ_sum, over_families, bigSep_univ_eq_bigSepL [false, true] (by decide) (by decide)]
    rfl
  iintro HX
  imod (Rounds.fund ER (sched m ρ) cellsAll toksAll) $$ HX with ⟨Hst, Hr, Hat, Htok⟩
  imodintro
  ihave Hst' := (Entails.of_eq (hX fun g => roundState ER (sched m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The copy semaphores at zero, family by family. -/
theorem ownSems0_eq (c : Dev nD) : (Pipeline.ownSems0 (Ix := Unit) (Name := ℕ) (U := UU) (Lvl := ℕ) (Val := Elt F) (τ := τ) osem c : sProp 𝕄) = zeros c := by
  unfold Pipeline.ownSems0 zeros; rw [over_families]
/-- The barrier's is the one semaphore beside them. -/
theorem unscopedSems0_eq (c : Dev nD) : (unscopedSems0 c : sProp 𝕄) = semVal (barCell c) 0 := by
  unfold unscopedSems0; rw [bigSep_eq_bigSepL_of_eq [SemLoc.reg barS] (by decide +kernel) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CK => semVal (kcell (c, k)) 0 : sProp 𝕄) := by
  rw [unscopedSems0_eq, over_cells]
  unfold Pipeline.ownSems0
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : CK => iprop(∃ κ : ℕ, cellInv ER (sched m ρ) κ (kcell (c, k))))
          ∗ (bigSep Finset.univ fun k : CK => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : CK => semVal (kcell (c, k)) 0) ∗ bigSep Finset.univ fun k : CK => roundState ER (sched m ρ) (kcell (c, k)) 0)
      ⊢ (|={Set.univ}=> bigSep Finset.univ fun k : CK => iprop(∃ κ : ℕ, cellInv ER (sched m ρ) κ (kcell (c, k))) : sProp 𝕄) from by
        rw [← bigSep_sep']
        exact (bigSep_mono fun k _ => (Rounds.body_intro ER (sched m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

def xRing : Dev nD ≃ Dev nD := ⟨X, X, X_X, X_X⟩
def yRing : Dev nD ≃ Dev nD := ⟨Y, Y, Y_Y, Y_Y⟩

/-- The tokens dealt around: each neighbour's go to the device that pays them. -/
theorem toks_around : (bigSep Finset.univ fun c : Dev nD => (toks c : sProp 𝕄)) ⊢ bigSep Finset.univ fun c : Dev nD => payToks c := by
  unfold toks payToks
  simp only [bigSep_sep']
  rw [bigSep_univ_equiv xRing (fun c : Dev nD => (dutyTok ER (barCell c) 0 false : sProp 𝕄)),
    bigSep_univ_equiv yRing (fun c : Dev nD => (dutyTok ER (barCell c) 0 true : sProp 𝕄)),
    bigSep_univ_equiv xRing (fun c : Dev nD => (each (fun i => dutyTok ER (dmaCell c 1 i) 0 false) : sProp 𝕄)),
    bigSep_univ_equiv yRing (fun c : Dev nD => (each (fun i => dutyTok ER (dmaCell c 3 i) 0 false) : sProp 𝕄))]
  exact Entails.refl _

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem places_eq (c : Dev nD) : (bigSep Finset.univ fun k : CK => (atPos ER (kcell (c, k)) 0 ∅ 0 : sProp 𝕄)) = places c := by
  unfold places; rw [over_cells, over_families]

theorem ghost_intro (K : Dev nD × CK → ℕ) (c : Dev nD) : iprop(records m ρ K ∗ places c ∗ payToks c) ⊢ G' m ρ c := by
  unfold G' ghost
  iintro H
  iexists K; iexact H

theorem regroup :
    (bigSep Finset.univ fun c : Dev nD => iprop((bigSep Finset.univ fun k : CK => iprop(∃ κ : ℕ, cellInv ER (sched m ρ) κ (kcell (c, k))))
          ∗ (bigSep Finset.univ fun k : CK => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × CK => iprop(∃ κ : ℕ, cellInv ER (sched m ρ) κ (kcell ck))),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← bigSep_univ_prod (fun ck : Dev nD × CK => (reached ER (kcell ck) 0 : sProp 𝕄))]
  iintro ⟨HI, ⟨Hat, #HR⟩, Htok⟩
  ihave HK := (BI.bigSep_exists_pi Finset.univ (fun (ck : Dev nD × CK) (κ : ℕ) => (cellInv ER (sched m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · iapply ((Entails.of_eq (bigSep_sep' Finset.univ (fun c : Dev nD => bigSep Finset.univ fun k : CK => (atPos ER (kcell (c, k)) 0 ∅ 0 : sProp 𝕄)) payToks).symm).trans
      (bigSep_mono fun c _ => show _ ⊢ iprop(places c ∗ payToks c) from Entails.of_eq (by rw [places_eq])))
    isplitl [Hat]; · iexact Hat
    iexact Htk

/-- All devices' semaphores at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The credit at launch -/

theorem bar_eq_iff {a b : Dev nD} : Iff (barCell a = barCell b) (a = b) :=
  ⟨fun h => Fin.ext (congrArg (fun g : GSem nD τ sig => g.1.1.val) h), fun h => h ▸ rfl⟩

theorem X_eq_iff {c d : Dev nD} : Iff (c = X d) (d = X c) := ⟨fun h => by rw [h, X_X], fun h => by rw [h, X_X]⟩
theorem Y_eq_iff {c d : Dev nD} : Iff (c = Y d) (d = Y c) := ⟨fun h => by rw [h, Y_Y], fun h => by rw [h, Y_Y]⟩

/-- One device's owings at one family of cells of device `c`. -/
theorem oweL_family (c d : Dev nD) (f : Fin 4) (i : Fin 32) : oweL (dmaCell d f) chunks (dmaCell c f i) () = if c = d then N else 0 := by
  by_cases h : c = d
  · subst h
    rw [oweL_apply (dmaCell c f) (fun i k h => (dmaCell_inj h).2.2) i (by decide : chunks.Nodup), if_pos (by revert i; decide), if_pos rfl]
  · rw [oweL_not (fun k hk => h (dmaCell_inj hk).1), if_neg h]
theorem oweL_other (c d : Dev nD) {f g : Fin 4} (hfg : f ≠ g) (i : Fin 32) : oweL (dmaCell d g) chunks (dmaCell c f i) () = 0 :=
  oweL_not (fun k hk => hfg (dmaCell_inj hk).2.1) _

theorem owed_bar (d c : Dev nD) : O₀ d (barCell c) () = (if d = Y c then 1 else 0) + (if d = X c then 1 else 0) := by
  unfold O₀ O₁ Ocopy
  rw [Pi.add_apply, Finsupp.add_apply, Pi.add_apply, Finsupp.add_apply, Pi.add_apply, Finsupp.add_apply,
    oweL_not (fun i h => dmaCell_ne_bar h.symm), oweL_not (fun i h => dmaCell_ne_bar h.symm), tallyAt_apply, tallyAt_apply, Nat.add_zero, Nat.zero_add]
  congr 1
  · exact if_congr ⟨fun h => Y_eq_iff.mp (bar_eq_iff.mp h.1), fun h => ⟨bar_eq_iff.mpr (Y_eq_iff.mpr h), rfl⟩⟩ rfl rfl
  · exact if_congr ⟨fun h => X_eq_iff.mp (bar_eq_iff.mp h.1), fun h => ⟨bar_eq_iff.mpr (X_eq_iff.mpr h), rfl⟩⟩ rfl rfl

theorem owed_r1 (d c : Dev nD) (i : Fin 32) : O₀ d (dmaCell c 1 i) () = if d = X c then N else 0 := by
  unfold O₀ O₁ Ocopy
  rw [Pi.add_apply, Finsupp.add_apply, Pi.add_apply, Finsupp.add_apply, Pi.add_apply, Finsupp.add_apply,
    oweL_other c (Y d) (by decide) i, oweL_family c (X d) 1 i, tallyAt_ne_cell dmaCell_ne_bar, tallyAt_ne_cell dmaCell_ne_bar,
    Finsupp.zero_apply, Nat.add_zero, Nat.add_zero, Nat.zero_add]
  exact if_congr X_eq_iff rfl rfl
theorem owed_r2 (d c : Dev nD) (i : Fin 32) : O₀ d (dmaCell c 3 i) () = if d = Y c then N else 0 := by
  unfold O₀ O₁ Ocopy
  rw [Pi.add_apply, Finsupp.add_apply, Pi.add_apply, Finsupp.add_apply, Pi.add_apply, Finsupp.add_apply,
    oweL_other c (X d) (by decide) i, oweL_family c (Y d) 3 i, tallyAt_ne_cell dmaCell_ne_bar, tallyAt_ne_cell dmaCell_ne_bar,
    Finsupp.zero_apply, Nat.add_zero, Nat.add_zero, Nat.add_zero]
  exact if_congr Y_eq_iff rfl rfl

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (Y c) fun _ => 1, Finset.sum_ite_eq' Finset.univ (X c) fun _ => 1, if_pos (Finset.mem_univ _), if_pos (Finset.mem_univ _)]
theorem launch_r1 (c : Dev nD) (i : Fin 32) :
    tallyOn (dmaCell c 1 i) (launchCredit (Pipeline.owing O₀) 0 (dmaCell c 1 i)) = (tallyAt (dmaCell c 1 i) () N : CellTallies nD τ sig Unit) := by
  unfold tallyAt; refine congrArg _ (Finsupp.ext fun u => ?_); cases u
  rw [Pipeline.launchCredit_owing, Finsupp.single_eq_same, Finset.sum_congr rfl fun d _ => owed_r1 d c i, Finset.sum_ite_eq' Finset.univ (X c) fun _ => N,
    if_pos (Finset.mem_univ _)]
theorem launch_r2 (c : Dev nD) (i : Fin 32) :
    tallyOn (dmaCell c 3 i) (launchCredit (Pipeline.owing O₀) 0 (dmaCell c 3 i)) = (tallyAt (dmaCell c 3 i) () N : CellTallies nD τ sig Unit) := by
  unfold tallyAt; refine congrArg _ (Finsupp.ext fun u => ?_); cases u
  rw [Pipeline.launchCredit_owing, Finsupp.single_eq_same, Finset.sum_congr rfl fun d _ => owed_r2 d c i, Finset.sum_ite_eq' Finset.univ (Y c) fun _ => N,
    if_pos (Finset.mem_univ _)]

theorem creds (c : Dev nD) : (Pipeline.launchCred O₀ c : sProp 𝕄) ⊢ credits c := by
  have h : (Pipeline.launchCred O₀ c : sProp 𝕄) ⊢ bigSep Finset.univ fun k : CK =>
      cred (tallyOn (kcell (c, k)) (launchCredit (Pipeline.owing O₀) 0 (kcell (c, k)))) := by
    unfold Pipeline.launchCred
    refine (bigSep_subset (Finset.subset_univ (Finset.univ.map ⟨csem, csem_injective⟩))).trans ?_
    rw [bigSep_map]; exact Entails.refl _
  refine h.trans ?_
  unfold credits
  rw [over_cells, over_families]
  iintro ⟨HB, -, H1, -, H3⟩
  isplitl [HB]
  · iapply (Entails.of_eq (congrArg cred (launch_bar c))); iexact HB
  isplitl [H1]
  · iapply (Entails.of_eq (bigSep_congr (Φ := fun i => (cred (tallyOn (dmaCell c 1 i) (launchCredit (Pipeline.owing O₀) 0 (dmaCell c 1 i))) : sProp 𝕄)) fun i (_ : i ∈ Finset.univ) => congrArg cred (launch_r1 c i))); iexact H1
  · iapply (Entails.of_eq (bigSep_congr (Φ := fun i => (cred (tallyOn (dmaCell c 3 i) (launchCredit (Pipeline.owing O₀) 0 (dmaCell c 3 i))) : sProp 𝕄)) fun i (_ : i ∈ Finset.univ) => congrArg cred (launch_r2 c i))); iexact H3

/-! ## The launch's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁ scratch
  iintro ⟨Hr, HzB, Hz⟩
  isplitl [HzB]; · iexact HzB
  isplitl [Hz] <;> iassumption

theorem waits (c : Dev nD) : (levAts L lv : sProp 𝕄) ⊢ Pipeline.cellsWaits cfgs (dats m ρ) () 0 c :=
  Pipeline.cellsWaits_intro cfgs (dats m ρ) () 0 c fun w s t =>
    mayWait_zero c _ (by fin_cases w <;> fin_cases s <;> rfl) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 65536 in
/-- From any memory with every counter at zero, for any float values: every run of the four devices ends, each device's
    arrays hold the computed contents, and every counter is back at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_cells m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The block of `x` is left as it was. -/
theorem finalA_x (c : Dev nD) : finalA m ρ c (0 : Fin 2) = (s₀ m ρ).mem (win0_0.arr.view.loc (c : Thread nD τ)) :=
  (dats (F := F) m ρ 0 c).arrAt_in (0 : Fin 2) rfl _

end Cert.AllReduce

end
-- ==== Proof.Result.lean ====
/-
What the kernel's arrays hold after the run: `x` what it held, the result `outAt`.
-/
module

public import proofs.«01_k».proof.Proof.Launch

@[expose] public section

noncomputable section

namespace Cert.AllReduce

open Cert.KernelIdeal Cert.KernelIdeal.Gen
open Idealize.ShloMosaic Idealize.ShloMosaic.TcCoe
open Idealize.SL.Sem
open Idealize.ShloMosaic.Pipeline (Dat Cfg Window)

variable {F : FTy → Type} [FloatOps F]

variable (m : (ℓ : Loc nD τ sig) → Buf (Elt F) ℓ) (ρ : Dev nD → PrngReg)

/-- The staged block is the device's block of `x`. -/
theorem xstg_eq (c : Dev nD) : (xstg m ρ c : S2048x1024.Idx → F .bf16) = m ((c : Thread nD τ).loc main_arg0) := by
  funext j
  unfold xstg
  rw [View.read_apply]
  exact congrArg (m ((c : Thread nD τ).loc main_arg0)) (funext fun a => Fin.ext (by
    fin_cases a <;> exact (Nat.zero_add _).trans (Nat.one_mul _)))

/-- The result's block at the one point is the whole array. -/
theorem out_emb (j : S2048x2048.Idx) : ((cfg0.win (1 : Fin 2)).blk t₀).view.emb j = j :=
  funext fun a => Fin.ext (by fin_cases a <;> exact (Nat.zero_add _).trans (Nat.one_mul _))

theorem finalA_out (c : Dev nD) : finalA m ρ c (1 : Fin 2) = outAt m ρ c :=
  (dats m ρ 0 c).arrAt_eq_of_cover (1 : Fin 2) (outAt m ρ c)
    (fun t _ => by
      rw [fin_N t]
      exact funext fun j => (congrArg (outAt m ρ c) (out_emb j)).symm)
    (fun i => ⟨t₀, rfl, by
      have := ((cfg0.win (1 : Fin 2)).blk t₀).view.emb_mem_set i
      rwa [out_emb] at this⟩)

/-- Every run ends with the result in every device's array, `x` as it was and every counter at zero. -/
theorem run_result : θ_run defs (onTc (τ := τ) (main (F := F))) ⟨m, fun _ => 0, ρ⟩ (fun r =>
    (∀ c : Dev nD, r.2.mem ((c.tc : Thread nD τ).loc main_v1) = outAt m ρ c
      ∧ r.2.mem ((c.tc : Thread nD τ).loc main_arg0) = m ((c.tc : Thread nD τ).loc main_arg0))
    ∧ r.2.sem = fun _ => 0) :=
  (θ_run defs _ _).mono (fun r h => ⟨fun c => ⟨(h.1 c (1 : Fin 2)).trans (finalA_out m ρ c), (h.1 c (0 : Fin 2)).trans (finalA_x m ρ c)⟩, h.2⟩)
    (run_main m ρ)

end Cert.AllReduce

end
-- ==== Proof.Reference.lean ====
/-
What the reference computes: at row `r` and column `k`, the sum of the array's two halves of the rows there.
-/
module

public import proofs.«01_k».proof.Proof.Gen.ReferenceIdeal.Run
public import Idealize.ShloMosaic.Lib.Pointwise
public import Idealize.ShloMosaic.PureOps.Ideal

@[expose] public section

noncomputable section

namespace Cert.AllReduce.Reference

open Cert.ReferenceIdeal Cert.ReferenceIdeal.Gen
open Idealize.ShloMosaic Idealize.ShloMosaic.TcCoe

/-- The reference's result of the whole array. -/
abbrev refOut (x : FVec Ideal S4096x2048 .bf16) : FVec Ideal S2048x2048 .bf16 :=
  truncf .bf16 (Host.reduceAdd (extf .f32 (shapeCast S2x2048x2048 x shapeCasts_S4096x2048_S2x2048x2048) bitsLt_bf16_f32)
    (constant S_ .f32 0x00000000#32) reducesTo_S2x2048x2048_S2048x2048_d0 h_S_) bitsLt_bf16_f32

set_option backward.proofsInPublic true in
/-- The place of the array in half `h` of its rows that lies over place `j` of the result. -/
def halfIdx (h : Fin 2) (j : S2048x2048.Idx) : S4096x2048.Idx :=
  ix2 ⟨h.val * 2048 + (j 0).val, by
    have hj : (j 0).val < 2048 := (j 0).isLt
    have := h.isLt
    omega⟩ (j 1)

theorem refOut_apply (x : FVec Ideal S4096x2048 .bf16) (j : S2048x2048.Idx) : refOut x j = x (halfIdx 0 j) + x (halfIdx 1 j) := by
  unfold refOut
  pointwise
  exact Fin.sum_univ_two _

end Cert.AllReduce.Reference

end
-- ==== Proof.Equation.lean ====
/-
The equation: on every device, the kernel's result is the reference's of the whole array.

A device of mesh place `(a, b)` holds rows `2048 a …` and columns `1024 b …` of the array. The two blocks the kernel adds
for a column stand in the two halves of the rows; which of them comes first depends on the device, and over the reals it
does not matter.
-/
module

public import proofs.«01_k».proof.Proof.Result
public import proofs.«01_k».proof.Proof.Reference
public import Idealize.ShloMosaic.Lib.Layout

@[expose] public section

noncomputable section

namespace Cert.AllReduce

open Cert.KernelIdeal Cert.KernelIdeal.Gen
open Idealize.ShloMosaic Idealize.ShloMosaic.TcCoe

abbrev SWhole : Shape := ⟨2, ![4096, 2048]⟩

/-- What device `d` holds of the whole array `x`. -/
abbrev blockOf (x : FVec Ideal SWhole .bf16) (d : Dev nD) : S2048x1024.Idx → EReal :=
  Layout.blockN ⟨2, ![2048, 1024]⟩ SWhole (Layout.meshBlock [2, 2] ![[0], [1]] d) x

set_option backward.proofsInPublic true in
/-- The half of the rows device `d`'s block is in. -/
def halfOf (d : Dev nD) : Fin 2 := ⟨d.val / 2, by
  have h : d.val < 4 := d.isLt
  omega⟩

theorem meshBlock_row (d : Dev nD) : ((Layout.meshBlock [2, 2] ![[0], [1]] d) 0).val = d.val / 2 := by revert d; decide
theorem meshBlock_col (d : Dev nD) : ((Layout.meshBlock [2, 2] ![[0], [1]] d) 1).val = d.val % 2 := by revert d; decide

/-- The block of a device whose columns `j`'s is among, read at `j`'s place of it. -/
theorem blockOf_apply (x : FVec Ideal SWhole .bf16) (d : Dev nD) (j : S2048x2048.Idx) (hd : d.val % 2 = (j 1).val / 1024) :
    blockOf x d (subIdx j) = x (Reference.halfIdx (halfOf d) j) := by
  have h0 : (j 0).val < 2048 := (j 0).isLt
  unfold blockOf
  rw [Layout.blockN_apply]
  refine congrArg x (funext fun a => Fin.ext ?_)
  rw [Layout.TilesN.idx_val]
  fin_cases a
  · show ((Layout.meshBlock [2, 2] ![[0], [1]] d) 0).val * 2048 + (j 0).val % 2048 = d.val / 2 * 2048 + (j 0).val
    rw [meshBlock_row]; omega
  · show ((Layout.meshBlock [2, 2] ![[0], [1]] d) 1).val * 1024 + (j 1).val % 1024 = (j 1).val
    rw [meshBlock_col]; omega

theorem halfOf_X (d : Dev nD) : (halfOf d = 0 ∧ halfOf (X d) = 1) ∨ (halfOf d = 1 ∧ halfOf (X d) = 0) := by
  revert d; decide
theorem X_col (d : Dev nD) : (X d).val % 2 = d.val % 2 := by revert d; decide
theorem colDev_col (c : Dev nD) (j : S2048x2048.Idx) : (colDev c (j 1).val).val % 2 = (j 1).val / 1024 := by
  have h : (j 1).val < 2048 := (j 1).isLt
  show (2 * (c.val / 2) + (j 1).val / 1024 % 2) % 2 = _
  omega

/-- If every device holds its block of `x`, each ends with the reference's result of `x`. -/
theorem outAt_eq_refOut (m : (ℓ : Loc nD τ sig) → Buf (Elt Ideal) ℓ) (ρ : Dev nD → PrngReg) (x : FVec Ideal SWhole .bf16)
    (hx : ∀ d : Dev nD, m ((d.tc : Thread nD τ).loc main_arg0) = blockOf x d) (c : Dev nD) : outAt m ρ c = Reference.refOut x := by
  funext j
  have hd := colDev_col c j
  rw [Reference.refOut_apply]
  have hs (d : Dev nD) : (xstg m ρ d : S2048x1024.Idx → EReal) = blockOf x d := (xstg_eq m ρ d).trans (hx d)
  have ho : outAt m ρ c j = blockOf x (colDev c (j 1).val) (subIdx j) + blockOf x (X (colDev c (j 1).val)) (subIdx j) := by
    rw [← hs, ← hs]; rfl
  refine ho.trans ?_
  generalize colDev c (j 1).val = d at hd ⊢
  rw [blockOf_apply x d j hd, blockOf_apply x (X d) j ((X_col d).trans hd)]
  rcases halfOf_X d with ⟨h1, h2⟩ | ⟨h1, h2⟩
  · rw [h1, h2]
  · rw [h1, h2]; exact add_comm (x (Reference.halfIdx 1 j) : EReal) (x (Reference.halfIdx 0 j))

end Cert.AllReduce

end
-- ==== Proof.lean ====
/-
The five claims. The kernel's run is proved once, for any float values: the two frames are that run with the values
dropped, and the value claim is the run over the reals, its result equal to the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Equation
public import Idealize.ShloMosaic.Adequacy
public import Idealize.ShloMosaic.Init

@[expose] public section

noncomputable section

namespace Cert.Proof

open Idealize.ShloMosaic Idealize.SL.Sem Cert.Kernel

set_option maxRecDepth 65536 in
/-- The two kernel programs are one text: their tables of bodies are the same. -/
theorem same_defs : Cert.Kernel.defs (F := Bits) = Cert.KernelIdeal.defs (F := Bits) := by
  chain_rfl

/-- The kernel over bit patterns: it runs, leaves its argument as it was and every counter at zero. -/
theorem frame_kernel : Cert.quiescent_Kernel := fun m ρ _ => by
  rw [same_defs]
  exact (θ_run Cert.KernelIdeal.defs _ _).mono (fun _ h => ⟨fun c => (h.1 c).2, h.2⟩) (AllReduce.run_result (F := Bits) m ρ)

/-- The same over the reals. -/
theorem frame_kernel_ideal : Cert.quiescent_KernelIdeal := fun m ρ _ =>
  (θ_run Cert.KernelIdeal.defs _ _).mono (fun _ h => ⟨fun c => (h.1 c).2, h.2⟩) (AllReduce.run_result (F := Ideal) m ρ)

/-- The reference has no semaphore. -/
theorem reference_sems (s : MemSt ReferenceIdeal.nD ReferenceIdeal.τ ReferenceIdeal.sig (Elt Ideal)) : s.sem = fun _ => 0 :=
  sem_eq_zero_of_no_sems (by decide) s

/-- The reference over the reals: it runs and leaves its argument as it was. -/
theorem frame_reference : Cert.quiescent_ReferenceIdeal := fun m ρ _ =>
  (θ_run Cert.ReferenceIdeal.defs _ _).mono (fun r h => ⟨fun c => (h c).2, reference_sems r.2⟩) (ReferenceIdeal.Value.run (F := Ideal) m ρ)

/-- Over the reals every device ends with the reference's result of the whole array. -/
theorem equation : Cert.algebraic_KernelIdeal_ReferenceIdeal := fun m ρ m' ρ' _ hx =>
  ⟨AllReduce.Reference.refOut (m' (((0 : Dev ReferenceIdeal.nD).tc : Thread ReferenceIdeal.nD ReferenceIdeal.τ).loc ReferenceIdeal.main_arg0)),
    (θ_run Cert.KernelIdeal.defs _ _).mono
      (fun _ h c => ⟨(h.1 c).1.trans (AllReduce.outAt_eq_refOut m ρ _ hx c), (h.1 c).2⟩) (AllReduce.run_result (F := Ideal) m ρ),
    (θ_run Cert.ReferenceIdeal.defs _ _).mono (fun _ h => ⟨(h 0).1, (h 0).2⟩) (ReferenceIdeal.Value.run (F := Ideal) m' ρ')⟩

theorem claim : Cert.Claim :=
  ⟨Cert.Kernel.Gen.facts, Cert.KernelIdeal.Gen.facts, Cert.ReferenceIdeal.Gen.facts,
    frame_kernel, frame_kernel_ideal, frame_reference, trivial, equation⟩

end Cert.Proof

end
